-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![16384, 1024]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x1024 .f32) (main_arg2 : FVec F S1x2048x128x128 .f32) (main_arg3 : FVec F S1x2048x128x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x16384 : S_.BroadcastsInDim S1024x16384 (![] : Fin 0 → Fin S1024x16384.rank)
  reducesTo_S1024x16384_S_d0_1 : S1024x16384.ReducesTo [0, 1] S_
  bcast_S_S1x2048x128x128 : S_.BroadcastsInDim S1x2048x128x128 (![] : Fin 0 → Fin S1x2048x128x128.rank)
  reducesTo_S1x2048x128x128_S_d0_1_2_3 : S1x2048x128x128.ReducesTo [0, 1, 2, 3] S_

variable [Facts]

def fn {F : FTy → Type} [FloatOps F] (main_arg0 : FVec F S1x2048x1024 .f32) (main_arg1 : FVec F S1024x16384 .f32) (main_arg2 : FVec F S1x2048x128x128 .f32) (main_arg3 : FVec F S1x2048x128x128 .f32) (main_arg4 : FVec F S16384x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1x2048x128x128 .f32 := Host.absf main_arg2
  let main_cst_2 : FVec F S_ .f32 := constant S_ .f32 0x7F800000#32
  let main_v10 : FVec F S1x2048x128x128 .f32 := broadcastInDim S1x2048x128x128 ![] bcast_S_S1x2048x128x128 main_cst_2
  let main_v11 : IVec S1x2048x128x128 1 := cmpf .olt main_v9 main_v10
  let main_c_3 : IVec S_ 1 := constantI S_ 1 1#1
  let main_v12 : IVec S_ 1 := (fun x v => Host.reduce IntOp.andi x v reducesTo_S1x2048x128x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x128x128 : Shape := ⟨4, ![1, 2048, 128, 128]⟩
abbrev S_ : Shape := ⟨0, ![]⟩
abbrev S2048x1024 : Shape := ⟨2, ![2048, 1024]⟩
abbrev S1x2048x8x128 : Shape := ⟨4, ![1, 2048, 8, 128]⟩
abbrev S2048x8x128 : Shape := ⟨3, ![2048, 8, 128]⟩
abbrev S8x2048x128 : Shape := ⟨3, ![8, 2048, 128]⟩
abbrev S2x128x512 : Shape := ⟨3, ![2, 128, 512]⟩
abbrev S2 : Shape := ⟨1, ![2]⟩
abbrev S512x1024 : Shape := ⟨2, ![512, 1024]⟩
abbrev S512x2048 : Shape := ⟨2, ![512, 2048]⟩
abbrev S512x128 : Shape := ⟨2, ![512, 128]⟩
abbrev S1x2048x128 : Shape := ⟨3, ![1, 2048, 128]⟩
abbrev S2048x128 : Shape := ⟨2, ![2048, 128]⟩
abbrev S512 : Shape := ⟨1, ![512]⟩
abbrev S512x1 : Shape := ⟨2, ![512, 1]⟩
abbrev S128x1024 : Shape := ⟨2, ![128, 1024]⟩
abbrev S512x768 : Shape := ⟨2, ![512, 768]⟩
abbrev S1x768x128 : Shape := ⟨3, ![1, 768, 128]⟩
abbrev S768x128 : Shape := ⟨2, ![768, 128]⟩
abbrev S1x128x128 : Shape := ⟨3, ![1, 128, 128]⟩
abbrev S128x128 : Shape := ⟨2, ![128, 128]⟩
abbrev S512x640 : Shape := ⟨2, ![512, 640]⟩
abbrev S1x640x128 : Shape := ⟨3, ![1, 640, 128]⟩
abbrev S640x128 : Shape := ⟨2, ![640, 128]⟩
abbrev S1 : Shape := ⟨1, ![1]⟩
abbrev S1x128x512 : Shape := ⟨3, ![1, 128, 512]⟩
abbrev S128x512 : Shape := ⟨2, ![128, 512]⟩

abbrev nBuf : Space → Nat
  | .hbm => 40
  | .vmem => 8
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x128x128, .f32⟩
  | .hbm, ⟨3, _⟩ => ⟨S1x2048x128x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x1024, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1x2048x8x128, .f32⟩
  | .hbm, ⟨23, _⟩ => ⟨S2048x8x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x2048x8x128, .f32⟩
  | .hbm, ⟨35, _⟩ => ⟨S2048x8x128, .f32⟩
  | .hbm, ⟨36, _⟩ => ⟨S8x2048x128, .f32⟩
  | .hbm, ⟨37, _⟩ => ⟨S8x2048x128, .f32⟩
  | .hbm, ⟨38, _⟩ => ⟨S2048x1024, .f32⟩
  | .hbm, ⟨39, _⟩ => ⟨S1x2048x1024, .f32⟩
  | .local _ .vmem, ⟨0, _⟩ => ⟨S2048x1024, .f32⟩
  | .local _ .vmem, ⟨1, _⟩ => ⟨S1024x1024, .f32⟩
  | .local _ .vmem, ⟨2, _⟩ => ⟨S8x2048x128, .f32⟩
  | .local _ .vmem, ⟨3, _⟩ => ⟨S8x2048x128, .f32⟩
  | .local _ .vmem, ⟨4, _⟩ => ⟨S1024x1024, .f32⟩
  | .local _ .vmem, ⟨5, _⟩ => ⟨S2048x1024, .f32⟩
  | .local _ .vmem, ⟨6, _⟩ => ⟨S2x128x512, .f32⟩
  | .local _ .vmem, ⟨7, _⟩ => ⟨S2x128x512, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_c_6 : Ref sig .tc := ⟨.hbm, 21, rfl⟩
abbrev main_v10 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_c_8 : Ref sig .tc := ⟨.hbm, 26, rfl⟩
abbrev main_v13 : Ref sig .tc := ⟨.hbm, 27, rfl⟩
abbrev main_c_9 : Ref sig .tc := ⟨.hbm, 28, rfl⟩
abbrev main_v14 : Ref sig .tc := ⟨.hbm, 29, rfl⟩
abbrev main_v15 : Ref sig .tc := ⟨.hbm, 30, rfl⟩
abbrev main_c_10 : Ref sig .tc := ⟨.hbm, 31, rfl⟩
abbrev main_c_11 : Ref sig .tc := ⟨.hbm, 32, rfl⟩
abbrev main_c_12 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_8 : BitVec 32 := 1#32
  let v11 : BitVec 32 := Scalar.muli v4 c1_i32_8
  let v12 : BitVec 32 := Scalar.addi c0_i32_9 v11
  v12.toNat
def k0_off1 (d0 : Dev nD) (c0_i32_741 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1290 : BitVec 32 := Scalar.subi v2 c0_i32_741
  let c32_i32_742 : BitVec 32 := 32#32
  let v1291 : BitVec 32 := Scalar.addi v1290 c32_i32_742
  let c16_i32_743 : BitVec 32 := 16#32
  let v1292 : BitVec 32 := Scalar.remsi v1291 c16_i32_743
  let c128_i32_753 : BitVec 32 := 128#32
  let v1302 : BitVec 32 := Scalar.muli v1292 c128_i32_753
  let c0_i32_762 : BitVec 32 := 0#32
  ![v1302.toNat, 0]
def k0_dev3 (d0 : Dev nD) : Nat :=
  let c0_i32_759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_758 : BitVec 32 := 1#32
  let v1304 : BitVec 32 := Scalar.muli v4 c1_i32_758
  let v1305 : BitVec 32 := Scalar.addi c0_i32_759 v1304
  v1305.toNat
def k0_off2 (d0 : Dev nD) (c0_i32_748 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1297 : BitVec 32 := Scalar.addi v2 c0_i32_748
  let c16_i32_749 : BitVec 32 := 16#32
  let v1298 : BitVec 32 := Scalar.remsi v1297 c16_i32_749
  let c128_i32_754 : BitVec 32 := 128#32
  let v1303 : BitVec 32 := Scalar.muli v1298 c128_i32_754
  let c512_i32_770 : BitVec 32 := 512#32
  ![v1303.toNat, 512]
def k0_dev4 (d0 : Dev nD) : Nat :=
  let c0_i32_767 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_766 : BitVec 32 := 1#32
  let v1313 : BitVec 32 := Scalar.muli v7 c1_i32_766
  let v1314 : BitVec 32 := Scalar.addi c0_i32_767 v1313
  v1314.toNat
def k0_off3 (d0 : Dev nD) (c0_i32_744 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1293 : BitVec 32 := Scalar.subi v2 c0_i32_744
  let c1_i32_745 : BitVec 32 := 1#32
  let v1294 : BitVec 32 := Scalar.subi v1293 c1_i32_745
  let c32_i32_746 : BitVec 32 := 32#32
  let v1295 : BitVec 32 := Scalar.addi v1294 c32_i32_746
  let c16_i32_747 : BitVec 32 := 16#32
  let v1296 : BitVec 32 := Scalar.remsi v1295 c16_i32_747
  let c128_i32_786 : BitVec 32 := 128#32
  let v1334 : BitVec 32 := Scalar.muli v1296 c128_i32_786
  let v1335 : Index := Scalar.indexCast v1334
  let c0_787 : Index := 0#32
  ![v1335.toNat, 0]
def k0_off4 (d0 : Dev nD) (c0_i32_750 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1299 : BitVec 32 := Scalar.addi v2 c0_i32_750
  let c1_i32_751 : BitVec 32 := 1#32
  let v1300 : BitVec 32 := Scalar.addi v1299 c1_i32_751
  let c16_i32_752 : BitVec 32 := 16#32
  let v1301 : BitVec 32 := Scalar.remsi v1300 c16_i32_752
  let c128_i32_808 : BitVec 32 := 128#32
  let v1356 : BitVec 32 := Scalar.muli v1301 c128_i32_808
  let v1357 : Index := Scalar.indexCast v1356
  let c512_809 : Index := 512#32
  ![v1357.toNat, 512]
def k0_dev5 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_832 : BitVec 32 := 1#32
  let v1380 : BitVec 32 := Scalar.muli v4 c1_i32_832
  let v1381 : BitVec 32 := Scalar.addi c0_i32_833 v1380
  v1381.toNat
def k0_dev6 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_840 : BitVec 32 := 1#32
  let v1389 : BitVec 32 := Scalar.muli v7 c1_i32_840
  let v1390 : BitVec 32 := Scalar.addi c0_i32_841 v1389
  v1390.toNat
def k0_dev7 (d0 : Dev nD) : Nat :=
  let c0_i32_907 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_906 : BitVec 32 := 1#32
  let v1456 : BitVec 32 := Scalar.muli v4 c1_i32_906
  let v1457 : BitVec 32 := Scalar.addi c0_i32_907 v1456
  v1457.toNat
def k0_dev8 (d0 : Dev nD) : Nat :=
  let c0_i32_915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_914 : BitVec 32 := 1#32
  let v1465 : BitVec 32 := Scalar.muli v7 c1_i32_914
  let v1466 : BitVec 32 := Scalar.addi c0_i32_915 v1465
  v1466.toNat
def k0_dev9 (d0 : Dev nD) : Nat :=
  let c0_i32_980 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_979 : BitVec 32 := 1#32
  let v1532 : BitVec 32 := Scalar.muli v4 c1_i32_979
  let v1533 : BitVec 32 := Scalar.addi c0_i32_980 v1532
  v1533.toNat
def k0_dev10 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_987 : BitVec 32 := 1#32
  let v1541 : BitVec 32 := Scalar.muli v7 c1_i32_987
  let v1542 : BitVec 32 := Scalar.addi c0_i32_988 v1541
  v1542.toNat
def k0_dev11 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1052 : BitVec 32 := 1#32
  let v1608 : BitVec 32 := Scalar.muli v4 c1_i32_1052
  let v1609 : BitVec 32 := Scalar.addi c0_i32_1053 v1608
  v1609.toNat
def k0_dev12 (d0 : Dev nD) : Nat :=
  let c0_i32_1061 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1060 : BitVec 32 := 1#32
  let v1617 : BitVec 32 := Scalar.muli v7 c1_i32_1060
  let v1618 : BitVec 32 := Scalar.addi c0_i32_1061 v1617
  v1618.toNat
def k0_dev13 (d0 : Dev nD) : Nat :=
  let c0_i32_1126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1125 : BitVec 32 := 1#32
  let v1684 : BitVec 32 := Scalar.muli v4 c1_i32_1125
  let v1685 : BitVec 32 := Scalar.addi c0_i32_1126 v1684
  v1685.toNat
def k0_dev14 (d0 : Dev nD) : Nat :=
  let c0_i32_1134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1133 : BitVec 32 := 1#32
  let v1693 : BitVec 32 := Scalar.muli v7 c1_i32_1133
  let v1694 : BitVec 32 := Scalar.addi c0_i32_1134 v1693
  v1694.toNat
def k0_dev15 (d0 : Dev nD) : Nat :=
  let c0_i32_1199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1198 : BitVec 32 := 1#32
  let v1760 : BitVec 32 := Scalar.muli v4 c1_i32_1198
  let v1761 : BitVec 32 := Scalar.addi c0_i32_1199 v1760
  v1761.toNat
def k0_dev16 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1206 : BitVec 32 := 1#32
  let v1769 : BitVec 32 := Scalar.muli v7 c1_i32_1206
  let v1770 : BitVec 32 := Scalar.addi c0_i32_1207 v1769
  v1770.toNat
def k0_dev17 (d0 : Dev nD) : Nat :=
  let c0_i32_1272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1271 : BitVec 32 := 1#32
  let v1836 : BitVec 32 := Scalar.muli v4 c1_i32_1271
  let v1837 : BitVec 32 := Scalar.addi c0_i32_1272 v1836
  v1837.toNat
def k0_dev18 (d0 : Dev nD) : Nat :=
  let c0_i32_1280 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1279 : BitVec 32 := 1#32
  let v1845 : BitVec 32 := Scalar.muli v7 c1_i32_1279
  let v1846 : BitVec 32 := Scalar.addi c0_i32_1280 v1845
  v1846.toNat
def k0_dev19 (d0 : Dev nD) : Nat :=
  let c0_i32_1345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1344 : BitVec 32 := 1#32
  let v1912 : BitVec 32 := Scalar.muli v4 c1_i32_1344
  let v1913 : BitVec 32 := Scalar.addi c0_i32_1345 v1912
  v1913.toNat
def k0_dev20 (d0 : Dev nD) : Nat :=
  let c0_i32_1353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1352 : BitVec 32 := 1#32
  let v1921 : BitVec 32 := Scalar.muli v7 c1_i32_1352
  let v1922 : BitVec 32 := Scalar.addi c0_i32_1353 v1921
  v1922.toNat
def k0_dev21 (d0 : Dev nD) : Nat :=
  let c0_i32_1418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1417 : BitVec 32 := 1#32
  let v1988 : BitVec 32 := Scalar.muli v4 c1_i32_1417
  let v1989 : BitVec 32 := Scalar.addi c0_i32_1418 v1988
  v1989.toNat
def k0_dev22 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1425 : BitVec 32 := 1#32
  let v1997 : BitVec 32 := Scalar.muli v7 c1_i32_1425
  let v1998 : BitVec 32 := Scalar.addi c0_i32_1426 v1997
  v1998.toNat
def k0_dev23 (d0 : Dev nD) : Nat :=
  let c0_i32_1491 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1490 : BitVec 32 := 1#32
  let v2064 : BitVec 32 := Scalar.muli v4 c1_i32_1490
  let v2065 : BitVec 32 := Scalar.addi c0_i32_1491 v2064
  v2065.toNat
def k0_dev24 (d0 : Dev nD) : Nat :=
  let c0_i32_1499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1498 : BitVec 32 := 1#32
  let v2073 : BitVec 32 := Scalar.muli v7 c1_i32_1498
  let v2074 : BitVec 32 := Scalar.addi c0_i32_1499 v2073
  v2074.toNat
def k0_dev25 (d0 : Dev nD) : Nat :=
  let c0_i32_1564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1563 : BitVec 32 := 1#32
  let v2140 : BitVec 32 := Scalar.muli v4 c1_i32_1563
  let v2141 : BitVec 32 := Scalar.addi c0_i32_1564 v2140
  v2141.toNat
def k0_dev26 (d0 : Dev nD) : Nat :=
  let c0_i32_1572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1571 : BitVec 32 := 1#32
  let v2149 : BitVec 32 := Scalar.muli v7 c1_i32_1571
  let v2150 : BitVec 32 := Scalar.addi c0_i32_1572 v2149
  v2150.toNat
def k0_dev27 (d0 : Dev nD) : Nat :=
  let c0_i32_1637 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1636 : BitVec 32 := 1#32
  let v2216 : BitVec 32 := Scalar.muli v4 c1_i32_1636
  let v2217 : BitVec 32 := Scalar.addi c0_i32_1637 v2216
  v2217.toNat
def k0_dev28 (d0 : Dev nD) : Nat :=
  let c0_i32_1645 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1644 : BitVec 32 := 1#32
  let v2225 : BitVec 32 := Scalar.muli v7 c1_i32_1644
  let v2226 : BitVec 32 := Scalar.addi c0_i32_1645 v2225
  v2226.toNat
def k0_dev29 (d0 : Dev nD) : Nat :=
  let c0_i32_1710 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1709 : BitVec 32 := 1#32
  let v2292 : BitVec 32 := Scalar.muli v4 c1_i32_1709
  let v2293 : BitVec 32 := Scalar.addi c0_i32_1710 v2292
  v2293.toNat
def k0_dev30 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1717 : BitVec 32 := 1#32
  let v2301 : BitVec 32 := Scalar.muli v7 c1_i32_1717
  let v2302 : BitVec 32 := Scalar.addi c0_i32_1718 v2301
  v2302.toNat
def k0_dev31 (d0 : Dev nD) : Nat :=
  let c0_i32_1783 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1782 : BitVec 32 := 1#32
  let v2368 : BitVec 32 := Scalar.muli v4 c1_i32_1782
  let v2369 : BitVec 32 := Scalar.addi c0_i32_1783 v2368
  v2369.toNat
def k0_dev32 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1790 : BitVec 32 := 1#32
  let v2377 : BitVec 32 := Scalar.muli v7 c1_i32_1790
  let v2378 : BitVec 32 := Scalar.addi c0_i32_1791 v2377
  v2378.toNat
def k0_off5 (d0 : Dev nD) (c0_i32_1840 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1839 : BitVec 32 := 1#32
  let v2430 : BitVec 32 := Scalar.addi v2 c1_i32_1839
  let v2431 : BitVec 32 := Scalar.subi v2430 c0_i32_1840
  let c32_i32_1841 : BitVec 32 := 32#32
  let v2432 : BitVec 32 := Scalar.addi v2431 c32_i32_1841
  let c16_i32_1842 : BitVec 32 := 16#32
  let v2433 : BitVec 32 := Scalar.remsi v2432 c16_i32_1842
  let c128_i32_1848 : BitVec 32 := 128#32
  let v2439 : BitVec 32 := Scalar.muli v2433 c128_i32_1848
  let c0_i32_1855 : BitVec 32 := 0#32
  ![v2439.toNat, 0]
def k0_dev33 (d0 : Dev nD) : Nat :=
  let c0_i32_1854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1853 : BitVec 32 := 1#32
  let v2442 : BitVec 32 := Scalar.muli v4 c1_i32_1853
  let v2443 : BitVec 32 := Scalar.addi c0_i32_1854 v2442
  v2443.toNat
def k0_off6 (d0 : Dev nD) (c0_i32_1844 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1843 : BitVec 32 := 1#32
  let v2434 : BitVec 32 := Scalar.subi v2 c1_i32_1843
  let v2435 : BitVec 32 := Scalar.addi v2434 c0_i32_1844
  let c32_i32_1845 : BitVec 32 := 32#32
  let v2436 : BitVec 32 := Scalar.addi v2435 c32_i32_1845
  let c16_i32_1846 : BitVec 32 := 16#32
  let v2437 : BitVec 32 := Scalar.remsi v2436 c16_i32_1846
  let c128_i32_1850 : BitVec 32 := 128#32
  let v2441 : BitVec 32 := Scalar.muli v2437 c128_i32_1850
  let c512_i32_1861 : BitVec 32 := 512#32
  ![v2441.toNat, 512]
def k0_dev34 (d0 : Dev nD) : Nat :=
  let c0_i32_1860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1859 : BitVec 32 := 1#32
  let v2450 : BitVec 32 := Scalar.muli v7 c1_i32_1859
  let v2451 : BitVec 32 := Scalar.addi c0_i32_1860 v2450
  v2451.toNat
def k0_dev35 (d0 : Dev nD) : Nat :=
  let c0_i32_1900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1899 : BitVec 32 := 1#32
  let v2490 : BitVec 32 := Scalar.muli v4 c1_i32_1899
  let v2491 : BitVec 32 := Scalar.addi c0_i32_1900 v2490
  v2491.toNat
def k0_dev36 (d0 : Dev nD) : Nat :=
  let c0_i32_1906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1905 : BitVec 32 := 1#32
  let v2498 : BitVec 32 := Scalar.muli v7 c1_i32_1905
  let v2499 : BitVec 32 := Scalar.addi c0_i32_1906 v2498
  v2499.toNat
def k0_dev37 (d0 : Dev nD) : Nat :=
  let c0_i32_1946 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1945 : BitVec 32 := 1#32
  let v2538 : BitVec 32 := Scalar.muli v4 c1_i32_1945
  let v2539 : BitVec 32 := Scalar.addi c0_i32_1946 v2538
  v2539.toNat
def k0_dev38 (d0 : Dev nD) : Nat :=
  let c0_i32_1952 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1951 : BitVec 32 := 1#32
  let v2546 : BitVec 32 := Scalar.muli v7 c1_i32_1951
  let v2547 : BitVec 32 := Scalar.addi c0_i32_1952 v2546
  v2547.toNat
def k0_dev39 (d0 : Dev nD) : Nat :=
  let c0_i32_1992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1991 : BitVec 32 := 1#32
  let v2586 : BitVec 32 := Scalar.muli v4 c1_i32_1991
  let v2587 : BitVec 32 := Scalar.addi c0_i32_1992 v2586
  v2587.toNat
def k0_dev40 (d0 : Dev nD) : Nat :=
  let c0_i32_1998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_1997 : BitVec 32 := 1#32
  let v2594 : BitVec 32 := Scalar.muli v7 c1_i32_1997
  let v2595 : BitVec 32 := Scalar.addi c0_i32_1998 v2594
  v2595.toNat
def k0_dev41 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2037 : BitVec 32 := 1#32
  let v2634 : BitVec 32 := Scalar.muli v4 c1_i32_2037
  let v2635 : BitVec 32 := Scalar.addi c0_i32_2038 v2634
  v2635.toNat
def k0_dev42 (d0 : Dev nD) : Nat :=
  let c0_i32_2044 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2043 : BitVec 32 := 1#32
  let v2642 : BitVec 32 := Scalar.muli v7 c1_i32_2043
  let v2643 : BitVec 32 := Scalar.addi c0_i32_2044 v2642
  v2643.toNat
def k0_dev43 (d0 : Dev nD) : Nat :=
  let c0_i32_2084 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2083 : BitVec 32 := 1#32
  let v2682 : BitVec 32 := Scalar.muli v4 c1_i32_2083
  let v2683 : BitVec 32 := Scalar.addi c0_i32_2084 v2682
  v2683.toNat
def k0_dev44 (d0 : Dev nD) : Nat :=
  let c0_i32_2090 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2089 : BitVec 32 := 1#32
  let v2690 : BitVec 32 := Scalar.muli v7 c1_i32_2089
  let v2691 : BitVec 32 := Scalar.addi c0_i32_2090 v2690
  v2691.toNat
def k0_dev45 (d0 : Dev nD) : Nat :=
  let c0_i32_2130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2129 : BitVec 32 := 1#32
  let v2730 : BitVec 32 := Scalar.muli v4 c1_i32_2129
  let v2731 : BitVec 32 := Scalar.addi c0_i32_2130 v2730
  v2731.toNat
def k0_dev46 (d0 : Dev nD) : Nat :=
  let c0_i32_2136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2135 : BitVec 32 := 1#32
  let v2738 : BitVec 32 := Scalar.muli v7 c1_i32_2135
  let v2739 : BitVec 32 := Scalar.addi c0_i32_2136 v2738
  v2739.toNat
def k0_dev47 (d0 : Dev nD) : Nat :=
  let c0_i32_2176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2175 : BitVec 32 := 1#32
  let v2778 : BitVec 32 := Scalar.muli v4 c1_i32_2175
  let v2779 : BitVec 32 := Scalar.addi c0_i32_2176 v2778
  v2779.toNat
def k0_dev48 (d0 : Dev nD) : Nat :=
  let c0_i32_2182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2181 : BitVec 32 := 1#32
  let v2786 : BitVec 32 := Scalar.muli v7 c1_i32_2181
  let v2787 : BitVec 32 := Scalar.addi c0_i32_2182 v2786
  v2787.toNat
def k0_dev49 (d0 : Dev nD) : Nat :=
  let c0_i32_2222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2221 : BitVec 32 := 1#32
  let v2826 : BitVec 32 := Scalar.muli v4 c1_i32_2221
  let v2827 : BitVec 32 := Scalar.addi c0_i32_2222 v2826
  v2827.toNat
def k0_dev50 (d0 : Dev nD) : Nat :=
  let c0_i32_2228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2227 : BitVec 32 := 1#32
  let v2834 : BitVec 32 := Scalar.muli v7 c1_i32_2227
  let v2835 : BitVec 32 := Scalar.addi c0_i32_2228 v2834
  v2835.toNat
def k0_dev51 (d0 : Dev nD) : Nat :=
  let c0_i32_2268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2267 : BitVec 32 := 1#32
  let v2874 : BitVec 32 := Scalar.muli v4 c1_i32_2267
  let v2875 : BitVec 32 := Scalar.addi c0_i32_2268 v2874
  v2875.toNat
def k0_dev52 (d0 : Dev nD) : Nat :=
  let c0_i32_2274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2273 : BitVec 32 := 1#32
  let v2882 : BitVec 32 := Scalar.muli v7 c1_i32_2273
  let v2883 : BitVec 32 := Scalar.addi c0_i32_2274 v2882
  v2883.toNat
def k0_dev53 (d0 : Dev nD) : Nat :=
  let c0_i32_2314 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2313 : BitVec 32 := 1#32
  let v2922 : BitVec 32 := Scalar.muli v4 c1_i32_2313
  let v2923 : BitVec 32 := Scalar.addi c0_i32_2314 v2922
  v2923.toNat
def k0_dev54 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2319 : BitVec 32 := 1#32
  let v2930 : BitVec 32 := Scalar.muli v7 c1_i32_2319
  let v2931 : BitVec 32 := Scalar.addi c0_i32_2320 v2930
  v2931.toNat
def k0_dev55 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2359 : BitVec 32 := 1#32
  let v2970 : BitVec 32 := Scalar.muli v4 c1_i32_2359
  let v2971 : BitVec 32 := Scalar.addi c0_i32_2360 v2970
  v2971.toNat
def k0_dev56 (d0 : Dev nD) : Nat :=
  let c0_i32_2366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2365 : BitVec 32 := 1#32
  let v2978 : BitVec 32 := Scalar.muli v7 c1_i32_2365
  let v2979 : BitVec 32 := Scalar.addi c0_i32_2366 v2978
  v2979.toNat
def k0_dev57 (d0 : Dev nD) : Nat :=
  let c0_i32_2406 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2405 : BitVec 32 := 1#32
  let v3018 : BitVec 32 := Scalar.muli v4 c1_i32_2405
  let v3019 : BitVec 32 := Scalar.addi c0_i32_2406 v3018
  v3019.toNat
def k0_dev58 (d0 : Dev nD) : Nat :=
  let c0_i32_2412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2411 : BitVec 32 := 1#32
  let v3026 : BitVec 32 := Scalar.muli v7 c1_i32_2411
  let v3027 : BitVec 32 := Scalar.addi c0_i32_2412 v3026
  v3027.toNat
def k0_dev59 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2451 : BitVec 32 := 1#32
  let v3066 : BitVec 32 := Scalar.muli v4 c1_i32_2451
  let v3067 : BitVec 32 := Scalar.addi c0_i32_2452 v3066
  v3067.toNat
def k0_dev60 (d0 : Dev nD) : Nat :=
  let c0_i32_2458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2457 : BitVec 32 := 1#32
  let v3074 : BitVec 32 := Scalar.muli v7 c1_i32_2457
  let v3075 : BitVec 32 := Scalar.addi c0_i32_2458 v3074
  v3075.toNat
def k0_dev61 (d0 : Dev nD) : Nat :=
  let c0_i32_2498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2497 : BitVec 32 := 1#32
  let v3114 : BitVec 32 := Scalar.muli v4 c1_i32_2497
  let v3115 : BitVec 32 := Scalar.addi c0_i32_2498 v3114
  v3115.toNat
def k0_dev62 (d0 : Dev nD) : Nat :=
  let c0_i32_2504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_2 : BitVec 32 := 16#32
  let v5 : BitVec 32 := Scalar.addi v2 c16_i32_2
  let c1_i32_3 : BitVec 32 := 1#32
  let v6 : BitVec 32 := Scalar.subi v5 c1_i32_3
  let c16_i32_4 : BitVec 32 := 16#32
  let v7 : BitVec 32 := Scalar.remsi v6 c16_i32_4
  let c1_i32_2503 : BitVec 32 := 1#32
  let v3122 : BitVec 32 := Scalar.muli v7 c1_i32_2503
  let v3123 : BitVec 32 := Scalar.addi c0_i32_2504 v3122
  v3123.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x2048x1024 : Shape := ⟨3, ![1, 2048, 1024]⟩
abbrev S1024x16384 : Shape := ⟨2, ![1024, 16384]⟩
abbrev S1x2048x128x128 : Shape := ⟨4, ![1, 2048, 128, 128]⟩
abbrev S16384x1024 : Shape := ⟨2, ![16384, 1024]⟩
abbrev S1x2048x16384 : Shape := ⟨3, ![1, 2048, 16384]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x128x2048x2048 : Shape := ⟨4, ![1, 128, 2048, 2048]⟩
abbrev S1x1x2048x2048 : Shape := ⟨4, ![1, 1, 2048, 2048]⟩
abbrev S1x128x2048 : Shape := ⟨3, ![1, 128, 2048]⟩
abbrev S1x128x2048x1 : Shape := ⟨4, ![1, 128, 2048, 1]⟩
abbrev S1x1x2048x1 : Shape := ⟨4, ![1, 1, 2048, 1]⟩
abbrev S1x128x128x2048 : Shape := ⟨4, ![1, 128, 128, 2048]⟩

abbrev nBuf : Space → Nat
  | .hbm => 67
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x16384, .f32⟩
  | .hbm, ⟨2, _⟩ => ⟨S1x2048x128x128, .f32⟩
  | .hbm, ⟨3, _⟩ => ⟨S1x2048x128x128, .f32⟩
  | .hbm, ⟨4, _⟩ => ⟨S16384x1024, .f32⟩
  | .hbm, ⟨5, _⟩ => ⟨S1x2048x16384, .f32⟩
  | .hbm, ⟨6, _⟩ => ⟨S1x2048x128x128, .f32⟩
  | .hbm, ⟨7, _⟩ => ⟨S2048, .i32⟩
  | .hbm, ⟨8, _⟩ => ⟨S2048x1, .i32⟩
  | .hbm, ⟨9, _⟩ => ⟨S2048, .i32⟩
  | .hbm, ⟨10, _⟩ => ⟨S1x2048, .i32⟩
  | .hbm, ⟨11, _⟩ => ⟨S2048x2048, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S_, .i32⟩
  | .hbm, ⟨16, _⟩ => ⟨S2048x2048, .i32⟩
  | .hbm, ⟨17, _⟩ => ⟨S2048x2048, .i1⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S2048x2048, .i1⟩
  | .hbm, ⟨25, _⟩ => ⟨S2048x2048, .i1⟩
  | .hbm, ⟨26, _⟩ => ⟨S2048x2048, .i1⟩
  | .hbm, ⟨27, _⟩ => ⟨S2048x2048, .i1⟩
  | .hbm, ⟨28, _⟩ => ⟨S1x128x2048x2048, .f32⟩
  | .hbm, ⟨29, _⟩ => ⟨S_, .f32⟩
  | .hbm, ⟨30, _⟩ => ⟨S1x128x2048x2048, .f32⟩
  | .hbm, ⟨31, _⟩ => ⟨S1x128x2048x2048, .f32⟩
  | .hbm, ⟨32, _⟩ => ⟨S1x1x2048x2048, .i1⟩
  | .hbm, ⟨33, _⟩ => ⟨S_, .f32⟩
  | .hbm, ⟨34, _⟩ => ⟨S_, .f32⟩
  | .hbm, ⟨35, _⟩ => ⟨S1x128x2048x2048, .i1⟩
  | .hbm, ⟨36, _⟩ => ⟨S1x128x2048x2048, .f32⟩
  | .hbm, ⟨37, _⟩ => ⟨S1x128x2048x2048, .f32⟩
  | .hbm, ⟨38, _⟩ => ⟨S_, .f32⟩
  | .hbm, ⟨39, _⟩ => ⟨S1x128x2048, .f32⟩
  | .hbm, ⟨40, _⟩ => ⟨S1x128x2048x1, .f32⟩
  | .hbm, ⟨41, _⟩ => ⟨S1x128x2048x2048, .f32⟩
  | .hbm, ⟨42, _⟩ => ⟨S1x128x2048x2048, .f32⟩
  | .hbm, ⟨43, _⟩ => ⟨S1x128x2048x2048, .f32⟩
  | .hbm, ⟨44, _⟩ => ⟨S_, .i1⟩
  | .hbm, ⟨45, _⟩ => ⟨S2048, .i1⟩
  | .hbm, ⟨46, _⟩ => ⟨S1x1x2048x1, .i1⟩
  | .hbm, ⟨47, _⟩ => ⟨S_, .f32⟩
  | .hbm, ⟨48, _⟩ => ⟨S1x128x2048, .f32⟩
  | .hbm, ⟨49, _⟩ => ⟨S1x128x2048x1, .f32⟩
  | .hbm, ⟨50, _⟩ => ⟨S_, .f32⟩
  | .hbm, ⟨51, _⟩ => ⟨S_, .f32⟩
  | .hbm, ⟨52, _⟩ => ⟨S1x128x2048x1, .i1⟩
  | .hbm, ⟨53, _⟩ => ⟨S1x128x2048x1, .f32⟩
  | .hbm, ⟨54, _⟩ => ⟨S1x128x2048x1, .f32⟩
  | .hbm, ⟨55, _⟩ => ⟨S1x128x2048x2048, .f32⟩
  | .hbm, ⟨56, _⟩ => ⟨S1x128x2048x2048, .f32⟩
  | .hbm, ⟨57, _⟩ => ⟨S1x1x2048x1, .i1⟩
  | .hbm, ⟨58, _⟩ => ⟨S_, .f32⟩
  | .hbm, ⟨59, _⟩ => ⟨S_, .f32⟩
  | .hbm, ⟨60, _⟩ => ⟨S1x128x2048x2048, .i1⟩
  | .hbm, ⟨61, _⟩ => ⟨S1x128x2048x2048, .f32⟩
  | .hbm, ⟨62, _⟩ => ⟨S1x128x2048x2048, .f32⟩
  | .hbm, ⟨63, _⟩ => ⟨S1x128x128x2048, .f32⟩
  | .hbm, ⟨64, _⟩ => ⟨S1x2048x128x128, .f32⟩
  | .hbm, ⟨65, _⟩ => ⟨S1x2048x16384, .f32⟩
  | .hbm, ⟨66, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KernelIdeal.Norm.lean ====
/-
  The kernel body as a short program: the entry handshake, the four row blocks of the local attention,
  and the thirty steps of the bidirectional ring, each written once over its number.
-/
module

public import proofs.«01_k».proof.Proof.Gen.KernelIdeal.Skeleton

@[expose] public section

noncomputable section

namespace Cert.KernelIdeal.Ring

open Idealize.ShloMosaic Idealize.SL.Sem
open Cert.KernelIdeal.Gen

variable {F : FTy → Type} [FloatOps F] [Named F]

/-! ## Facts about the accesses, for every head, row block and slot -/

theorem inbH (h : Fin 8) : ∀ a, (![h.val, 0, 0] : Fin 3 → Nat) a + S1x2048x128.size a ≤ S8x2048x128.size a := by
  revert h; decide
theorem inbG (h : Fin 8) : ∀ a, (![h.val, 0, 0] : Fin 3 → Nat) a + S1x128x128.size a ≤ S8x2048x128.size a := by
  revert h; decide
theorem inbWo (h : Fin 8) : ∀ a, (![128 * h.val, 0] : Fin 2 → Nat) a + S128x1024.size a ≤ S1024x1024.size a := by
  revert h; decide
theorem inbSlot (s : Fin 2) : ∀ a, (![s.val, 0, 0] : Fin 3 → Nat) a + S1x128x512.size a ≤ S2x128x512.size a := by
  revert s; decide
theorem inbSem (s : Fin 2) : ∀ a, (![s.val] : Fin 1 → Nat) a + S1.size a ≤ S2.size a := by
  revert s; decide
theorem inbRow (r : Fin 4) : ∀ a, (![512 * r.val, 0] : Fin 2 → Nat) a + S512x1024.size a ≤ S2048x1024.size a := by
  revert r; decide
theorem slcQ (r : Fin 4) (h : Fin 8) : S2048x1024.Slices ![512 * r.val, 128 * h.val] S512x128 := by
  revert r h; decide

/-! ## One head of one row block, as functions of what it loads -/

/-- The shape relations one width of key window needs. -/
structure Width (n : ℕ) where
  dq : DotDims S512x128 ⟨2, ![n, 128]⟩ ⟨2, ![512, n]⟩
  dv : DotDims ⟨2, ![512, n]⟩ ⟨2, ![n, 128]⟩ S512x128
  cast : Shape.ShapeCasts ⟨3, ![1, n, 128]⟩ ⟨2, ![n, 128]⟩
  red : Shape.Reduces ⟨2, ![512, n]⟩ [1] S512
  bc : Shape.Broadcasts S512x1 ⟨2, ![512, n]⟩

def w2048 : Width 2048 := ⟨dot_S512x128_S2048x128_S512x2048_1_1_0_0_n_n, dot_S512x2048_S2048x128_S512x128_1_0_0_1_n_n,
  shapeCasts_S1x2048x128_S2048x128, reduces_S512x2048_S512, broadcasts_S512x1_S512x2048⟩
def w768 : Width 768 := ⟨dot_S512x128_S768x128_S512x768_1_1_0_0_n_n, dot_S512x768_S768x128_S512x128_1_0_0_1_n_n,
  shapeCasts_S1x768x128_S768x128, reduces_S512x768_S512, broadcasts_S512x1_S512x768⟩
def w640 : Width 640 := ⟨dot_S512x128_S640x128_S512x640_1_1_0_0_n_n, dot_S512x640_S640x128_S512x128_1_0_0_1_n_n,
  shapeCasts_S1x640x128_S640x128, reduces_S512x640_S512, broadcasts_S512x1_S512x640⟩
def w128 : Width 128 := ⟨dot_S512x128_S128x128_S512x128_1_1_0_0_n_n, dot_S512x128_S128x128_S512x128_1_0_0_1_n_n,
  shapeCasts_S1x128x128_S128x128, reduces_S512x128_S512, broadcasts_S512x1_S512x128⟩

variable {n : ℕ}

/-- The scaled scores of a block of rows against `n` keys, plus the bias. -/
def score (W : Width n) (q : FVec F S512x128 .f32) (bias : FVec F ⟨2, ![512, n]⟩ .f32) (k : Vec F ⟨3, ![1, n, 128]⟩ .f32) :
    FVec F ⟨2, ![512, n]⟩ .f32 :=
  addf (mulf (matmul W.dq none q (shapeCast ⟨2, ![n, 128]⟩ k W.cast) (constant ⟨2, ![512, n]⟩ .f32 0x00000000#32))
    (broadcast ⟨2, ![512, n]⟩ (Scalar.ofBits .f32 0x3DB504F3#32))) bias
def rowMax (W : Width n) (s : FVec F ⟨2, ![512, n]⟩ .f32) : FVec F S512x1 .f32 :=
  shapeCast S512x1 (multiReduction .maximumf [1] S512 s 0xFF800000#32 W.red (.inl rfl) rfl) shapeCasts_S512_S512x1
def weights (W : Width n) (s : FVec F ⟨2, ![512, n]⟩ .f32) (m : FVec F S512x1 .f32) : FVec F ⟨2, ![512, n]⟩ .f32 :=
  exp (subf s (broadcastTo ⟨2, ![512, n]⟩ m W.bc))
def rowSum (W : Width n) (w : FVec F ⟨2, ![512, n]⟩ .f32) : FVec F S512x1 .f32 :=
  shapeCast S512x1 (multiReduction .add [1] S512 w 0x00000000#32 W.red (.inl rfl) rfl) shapeCasts_S512_S512x1
def attend (W : Width n) (w : FVec F ⟨2, ![512, n]⟩ .f32) (v : Vec F ⟨3, ![1, n, 128]⟩ .f32) : FVec F S512x128 .f32 :=
  matmul W.dv none w (shapeCast ⟨2, ![n, 128]⟩ v W.cast) (constant S512x128 .f32 0x00000000#32)
/-- The head's context, divided by its normaliser and sent through the head's rows of the output projection. -/
def project (acc : FVec F S512x1024 .f32) (ctx : FVec F S512x128 .f32) (d : FVec F S512x1 .f32) (wo : Vec F S128x1024 .f32) :
    FVec F S512x1024 .f32 :=
  addf acc (matmul dot_S512x128_S128x1024_S512x1024_1_0_0_1_n_n none (divf ctx (broadcastTo S512x128 d broadcasts_S512x1_S512x128))
    (shapeCast S128x1024 wo shapeCasts_S128x1024_S128x1024) (constant S512x1024 .f32 0x00000000#32))

/-- A head over all keys. -/
def headAll (acc : FVec F S512x1024 .f32) (q : FVec F S512x128 .f32) (bias : FVec F S512x2048 .f32)
    (k v : Vec F S1x2048x128 .f32) (wo : Vec F S128x1024 .f32) : FVec F S512x1024 .f32 :=
  project acc (attend w2048 (weights w2048 (score w2048 q bias k) (rowMax w2048 (score w2048 q bias k))) v)
    (rowSum w2048 (weights w2048 (score w2048 q bias k) (rowMax w2048 (score w2048 q bias k)))) wo

/-- The maximum over a window of keys and the first 128. -/
def winMax (W : Width n) (q : FVec F S512x128 .f32) (bw : FVec F ⟨2, ![512, n]⟩ .f32) (bg : FVec F S512x128 .f32)
    (kw : Vec F ⟨3, ![1, n, 128]⟩ .f32) (kg : Vec F S1x128x128 .f32) : FVec F S512x1 .f32 :=
  maximumf (rowMax W (score W q bw kw)) (rowMax w128 (score w128 q bg kg))
/-- A head over a window of keys and the first 128. -/
def headWin (W : Width n) (acc : FVec F S512x1024 .f32) (q : FVec F S512x128 .f32) (bw : FVec F ⟨2, ![512, n]⟩ .f32)
    (bg : FVec F S512x128 .f32) (kw : Vec F ⟨3, ![1, n, 128]⟩ .f32) (kg : Vec F S1x128x128 .f32) (vw : Vec F ⟨3, ![1, n, 128]⟩ .f32)
    (vg : Vec F S1x128x128 .f32) (wo : Vec F S128x1024 .f32) : FVec F S512x1024 .f32 :=
  project acc
    (addf (attend W (weights W (score W q bw kw) (winMax W q bw bg kw kg)) vw)
      (attend w128 (weights w128 (score w128 q bg kg) (winMax W q bw bg kw kg)) vg))
    (addf (rowSum W (weights W (score W q bw kw) (winMax W q bw bg kw kg)))
      (rowSum w128 (weights w128 (score w128 q bg kg) (winMax W q bw bg kw kg)))) wo

/-- The head's columns of the block's rows of the queries. -/
abbrev qSlice (q : FVec F S2048x1024 .f32) (r : Fin 4) (h : Fin 8) : FVec F S512x128 .f32 :=
  extractStridedSlice S512x128 ![512 * r.val, 128 * h.val] q (slcQ r h)

/-! ## The local attention as a program -/

section Prog

variable (arg0 : Memref sig .tc .vmem S2048x1024 .f32) (arg1 : Memref sig .tc .vmem S1024x1024 .f32)
  (arg2 arg3 : Memref sig .tc .vmem S8x2048x128 .f32) (arg4 : Memref sig .tc .vmem S1024x1024 .f32)
  (arg5 : Memref sig .tc .vmem S2048x1024 .f32) (arg6 arg7 : Memref sig .tc .vmem S2x128x512 .f32)
  (arg8 arg9 arg10 arg11 : DmaSems sig S2)

abbrev rectH (h : Fin 8) : Rect S8x2048x128 := Rect.unit (s := S8x2048x128) ![h.val, 0, 0] S1x2048x128.size (inbH h)
abbrev rectG (h : Fin 8) : Rect S8x2048x128 := Rect.unit (s := S8x2048x128) ![h.val, 0, 0] S1x128x128.size (inbG h)
abbrev rectWo (h : Fin 8) : Rect S1024x1024 := Rect.unit (s := S1024x1024) ![128 * h.val, 0] S128x1024.size (inbWo h)
abbrev rectRow (r : Fin 4) : Rect S2048x1024 := Rect.unit (s := S2048x1024) ![512 * r.val, 0] S512x1024.size (inbRow r)

def headsAll (q : FVec F S2048x1024 .f32) (bias : FVec F S512x2048 .f32) : List (Fin 8) → FVec F S512x1024 .f32 → Prog (TpuEff nD τ sig (Elt F) Λ₀ .tc) (FVec F S512x1024 .f32)
  | [], acc => pure acc
  | h :: hs, acc => do
    let k : Vec F S1x2048x128 .f32 ← Prog.lift (.load arg2 (rectH h).toLoadRect (View.loadsAt_vmem h_S1x2048x128))
    let v : Vec F S1x2048x128 .f32 ← Prog.lift (.load arg3 (rectH h).toLoadRect (View.loadsAt_vmem h_S1x2048x128))
    let wo : Vec F S128x1024 .f32 ← Prog.lift (.load arg4 (rectWo h).toLoadRect (View.loadsAt_vmem h_S128x1024))
    headsAll q bias hs (headAll acc (qSlice q 0 h) bias k v wo)

/-- A window of keys: its width, where it starts and that it lies inside. -/
structure Window (n : ℕ) where
  W : Width n
  c0 : ℕ
  pos : 0 < (⟨3, ![1, n, 128]⟩ : Shape).numel
  inb : ∀ h : Fin 8, ∀ a, (![h.val, c0, 0] : Fin 3 → Nat) a + (⟨3, ![1, n, 128]⟩ : Shape).size a ≤ S8x2048x128.size a

abbrev Window.rect (w : Window n) (h : Fin 8) : Rect S8x2048x128 :=
  Rect.unit (s := S8x2048x128) ![h.val, w.c0, 0] (⟨3, ![1, n, 128]⟩ : Shape).size (w.inb h)

def headsWin (w : Window n) (r : Fin 4) (q : FVec F S2048x1024 .f32) (bw : FVec F ⟨2, ![512, n]⟩ .f32) (bg : FVec F S512x128 .f32) :
    List (Fin 8) → FVec F S512x1024 .f32 → Prog (TpuEff nD τ sig (Elt F) Λ₀ .tc) (FVec F S512x1024 .f32)
  | [], acc => pure acc
  | h :: hs, acc => do
    let kw : Vec F ⟨3, ![1, n, 128]⟩ .f32 ← Prog.lift (.load arg2 (w.rect h).toLoadRect (View.loadsAt_vmem w.pos))
    let kg : Vec F S1x128x128 .f32 ← Prog.lift (.load arg2 (rectG h).toLoadRect (View.loadsAt_vmem h_S1x128x128))
    let vw : Vec F ⟨3, ![1, n, 128]⟩ .f32 ← Prog.lift (.load arg3 (w.rect h).toLoadRect (View.loadsAt_vmem w.pos))
    let vg : Vec F S1x128x128 .f32 ← Prog.lift (.load arg3 (rectG h).toLoadRect (View.loadsAt_vmem h_S1x128x128))
    let wo : Vec F S128x1024 .f32 ← Prog.lift (.load arg4 (rectWo h).toLoadRect (View.loadsAt_vmem h_S128x1024))
    headsWin w r q bw bg hs (headWin w.W acc (qSlice q r h) bw bg kw kg vw vg wo)

def win1 : Window 768 := ⟨w768, 384, h_S1x768x128, by decide⟩
def win2 : Window 768 := ⟨w768, 896, h_S1x768x128, by decide⟩
def win3 : Window 640 := ⟨w640, 1408, h_S1x640x128, by decide⟩

/-- The dead load and the store that end a row block. -/
def storeRow (r : Fin 4) (acc : FVec F S512x1024 .f32) : Prog (TpuEff nD τ sig (Elt F) Λ₀ .tc) PUnit := do
  let _ : Vec F S512x1024 .f32 ← Prog.lift (.load arg5 (rectRow r).toLoadRect (View.loadsAt_vmem h_S512x1024))
  Prog.lift (.store arg5 (rectRow r) acc Finset.univ (View.stores_vmem_bits_univ h_S512x1024 rfl) (.inl rfl))

def allHeads : List (Fin 8) := [0, 1, 2, 3, 4, 5, 6, 7]
abbrev zeroAcc : FVec F S512x1024 .f32 := k0_pay2 (F := F)
abbrev biasAll : FVec F S512x2048 .f32 := k0_pay4 k0_pay3 (Scalar.ofBits .f32 0x00000000#32)

def attention : Prog (TpuEff nD τ sig (Elt F) Λ₀ .tc) PUnit := do
  let x : Vec F S2048x1024 .f32 ← Prog.lift (.load arg0 (Rect.unit (s := S2048x1024) ![0, 0] S2048x1024.size inb_S2048x1024_S2048x1024_0_0).toLoadRect (View.loadsAt_vmem h_S2048x1024))
  let wq : Vec F S1024x1024 .f32 ← Prog.lift (.load arg1 (Rect.unit (s := S1024x1024) ![0, 0] S1024x1024.size inb_S1024x1024_S1024x1024_0_0).toLoadRect (View.loadsAt_vmem h_S1024x1024))
  let a0 ← headsAll arg2 arg3 arg4 (k0_pay1 x wq) (biasAll (F := F)) allHeads (zeroAcc (F := F))
  storeRow arg5 0 a0
  let a1 ← headsWin arg2 arg3 arg4 win1 1 (k0_pay1 x wq) (k0_pay18 (F := F)) (k0_pay19 (F := F)) allHeads (zeroAcc (F := F))
  storeRow arg5 1 a1
  let a2 ← headsWin arg2 arg3 arg4 win2 2 (k0_pay1 x wq) (k0_pay71 (F := F)) (k0_pay19 (F := F)) allHeads (zeroAcc (F := F))
  storeRow arg5 2 a2
  let a3 ← headsWin arg2 arg3 arg4 win3 3 (k0_pay1 x wq) (k0_pay124 (F := F)) (k0_pay19 (F := F)) allHeads (zeroAcc (F := F))
  storeRow arg5 3 a3

/-! ## The ring as a program -/

abbrev slotV (M : Memref sig .tc .vmem S2x128x512 .f32) (s : Fin 2) : Memref sig .tc .vmem S128x512 .f32 :=
  (M.slice (Rect.unit (s := S2x128x512) ![s.val, 0, 0] S1x128x512.size (inbSlot s)) (fun _ => rfl)).squeeze S128x512 squeezes_S1x128x512_S128x512
abbrev semV (A : DmaSems sig S2) (s : Fin 2) : DmaSem sig :=
  ((A.slice (Rect.unit (s := S2) ![s.val] S1.size (inbSem s))).squeeze S_ squeezes_S1_S_).sem
/-- A 128 by 512 block of the result buffer. -/
abbrev blkV (M : Memref sig .tc .vmem S2048x1024 .f32) (off : Fin 2 → ℕ) (h : ∀ a, off a + S128x512.size a ≤ S2048x1024.size a) :
    Memref sig .tc .vmem S128x512 .f32 := M.slice (Rect.unit (s := S2048x1024) off S128x512.size h) (fun _ => rfl)

/-- Copy a block of the result to a neighbour's slot. -/
def sendSlot (M5 : Memref sig .tc .vmem S2048x1024 .f32) (M : Memref sig .tc .vmem S2x128x512 .f32) (A B : DmaSems sig S2)
    (o : Fin 2 → ℕ) (h : ∀ a, o a + S128x512.size a ≤ S2048x1024.size a) (d : Dev nD) (s : Fin 2) : Prog (TpuEff nD τ sig (Elt F) Λ₀ .tc) PUnit :=
  Prog.lift (.enqueueDma (blkV M5 o h) (.remote (Dev.tc d) (slotV M s) (.dma (semV A s))) (.dma (semV B s)) (View.wordExact_bits rfl) ((View.wordExact_bits rfl).reshape _ _) ⟨⟨rfl, Or.inl rfl⟩, trivial⟩)
/-- Wait for the copy out of a block of the result. -/
def waitOut (M5 : Memref sig .tc .vmem S2048x1024 .f32) (M : Memref sig .tc .vmem S2x128x512 .f32) (A : DmaSems sig S2)
    (o : Fin 2 → ℕ) (h : ∀ a, o a + S128x512.size a ≤ S2048x1024.size a) (s : Fin 2) : Prog (TpuEff nD τ sig (Elt F) Λ₀ .tc) PUnit :=
  Prog.lift (.waitDma2 (semV A s) (slotV M s) (blkV M5 o h) ((View.wordExact_bits rfl).reshape _ _) (View.wordExact_bits rfl))
/-- Wait for the copy into a slot. -/
def waitIn (M5 : Memref sig .tc .vmem S2048x1024 .f32) (M : Memref sig .tc .vmem S2x128x512 .f32) (B : DmaSems sig S2)
    (o : Fin 2 → ℕ) (h : ∀ a, o a + S128x512.size a ≤ S2048x1024.size a) (s : Fin 2) : Prog (TpuEff nD τ sig (Elt F) Λ₀ .tc) PUnit :=
  Prog.lift (.waitDma2 (semV B s) (blkV M5 o h) (slotV M s) (View.wordExact_bits rfl) ((View.wordExact_bits rfl).reshape _ _))
/-- Add what a slot holds to a block of the result. -/
def accum (M5 : Memref sig .tc .vmem S2048x1024 .f32) (M : Memref sig .tc .vmem S2x128x512 .f32)
    (o : Fin 2 → ℕ) (h : ∀ a, o a + S128x512.size a ≤ S2048x1024.size a) (s : Fin 2) : Prog (TpuEff nD τ sig (Elt F) Λ₀ .tc) PUnit := do
  let x : Vec F S128x512 .f32 ← Prog.lift (.load M5 (Rect.unit (s := S2048x1024) o S128x512.size h).toLoadRect (View.loadsAt_vmem h_S128x512))
  let y : Vec F S1x128x512 .f32 ← Prog.lift (.load M (Rect.unit (s := S2x128x512) ![s.val, 0, 0] S1x128x512.size (inbSlot s)).toLoadRect (View.loadsAt_vmem h_S1x128x512))
  let _ : Vec F S128x512 .f32 ← Prog.lift (.load M5 (Rect.unit (s := S2048x1024) o S128x512.size h).toLoadRect (View.loadsAt_vmem h_S128x512))
  Prog.lift (.store M5 (Rect.unit (s := S2048x1024) o S128x512.size h) (k0_pay170 x y) Finset.univ (View.stores_vmem_bits_univ h_S128x512 rfl) (.inl rfl))
/-- Copy a block of the result to the same block of a neighbour's. -/
def sendBlk (M5 : Memref sig .tc .vmem S2048x1024 .f32) (A B : DmaSems sig S2)
    (o : Fin 2 → ℕ) (h : ∀ a, o a + S128x512.size a ≤ S2048x1024.size a) (d : Dev nD) (s : Fin 2) : Prog (TpuEff nD τ sig (Elt F) Λ₀ .tc) PUnit :=
  Prog.lift (.enqueueDma (blkV M5 o h) (.remote (Dev.tc d) (blkV M5 o h) (.dma (semV A s))) (.dma (semV B s)) (View.wordExact_bits rfl) (View.wordExact_bits rfl) ⟨⟨rfl, Or.inl rfl⟩, trivial⟩)
/-- Wait for a copy between blocks of the result. -/
def waitBlk (M5 : Memref sig .tc .vmem S2048x1024 .f32) (A : DmaSems sig S2)
    (o : Fin 2 → ℕ) (h : ∀ a, o a + S128x512.size a ≤ S2048x1024.size a) (s : Fin 2) : Prog (TpuEff nD τ sig (Elt F) Λ₀ .tc) PUnit :=
  Prog.lift (.waitDma2 (semV A s) (blkV M5 o h) (blkV M5 o h) (View.wordExact_bits rfl) (View.wordExact_bits rfl))

/-- A block that lies inside the result. -/
abbrev In (o : Fin 2 → ℕ) : Prop := ∀ a, o a + S128x512.size a ≤ S2048x1024.size a

/-- A step of the reduce-scatter: the blocks sent, the blocks added to, the two neighbours and the slot. -/
def rsStep (o1 o2 o3 o4 : Fin 2 → ℕ) (h1 : In o1) (h2 : In o2) (h3 : In o3) (h4 : In o4) (dR dL : Dev nD) (s : Fin 2) : Prog (TpuEff nD τ sig (Elt F) Λ₀ .tc) PUnit := do
  sendSlot arg5 arg6 arg8 arg9 o1 h1 dR s
  sendSlot arg5 arg7 arg10 arg11 o2 h2 dL s
  waitOut arg5 arg6 arg8 o1 h1 s
  waitIn arg5 arg6 arg9 o1 h1 s
  accum arg5 arg6 o3 h3 s
  waitOut arg5 arg7 arg10 o2 h2 s
  waitIn arg5 arg7 arg11 o2 h2 s
  accum arg5 arg7 o4 h4 s

/-- A step of the all-gather: the blocks sent, the two neighbours and the slot whose semaphores serve. -/
def agStep (o5 o6 : Fin 2 → ℕ) (h5 : In o5) (h6 : In o6) (dR dL : Dev nD) (s : Fin 2) : Prog (TpuEff nD τ sig (Elt F) Λ₀ .tc) PUnit := do
  sendBlk arg5 arg8 arg9 o5 h5 dR s
  sendBlk arg5 arg10 arg11 o6 h6 dL s
  waitBlk arg5 arg8 o5 h5 s
  waitBlk arg5 arg9 o5 h5 s
  waitBlk arg5 arg10 o6 h6 s
  waitBlk arg5 arg11 o6 h6 s

def rsSteps (d : Dev nD) : List (Fin 15 × Fin 2) → Prog (TpuEff nD τ sig (Elt F) Λ₀ .tc) PUnit
  | [] => pure ⟨⟩
  | p :: ps => do
    rsStep arg5 arg6 arg7 arg8 arg9 arg10 arg11 (k0_off1 d (BitVec.ofNat 32 p.1.val)) (k0_off2 d (BitVec.ofNat 32 p.1.val))
      (k0_off3 d (BitVec.ofNat 32 p.1.val)) (k0_off4 d (BitVec.ofNat 32 p.1.val)) (k0_off1_inb d p.1) (k0_off2_inb d p.1)
      (k0_off3_inb d p.1) (k0_off4_inb d p.1) ⟨k0_dev3 d, k0_dev3_lt d⟩ ⟨k0_dev4 d, k0_dev4_lt d⟩ p.2
    rsSteps d ps
def agSteps (d : Dev nD) : List (Fin 15 × Fin 2) → Prog (TpuEff nD τ sig (Elt F) Λ₀ .tc) PUnit
  | [] => pure ⟨⟩
  | p :: ps => do
    agStep arg5 arg8 arg9 arg10 arg11 (k0_off5 d (BitVec.ofNat 32 p.1.val)) (k0_off6 d (BitVec.ofNat 32 p.1.val))
      (k0_off5_inb d p.1) (k0_off6_inb d p.1) ⟨k0_dev3 d, k0_dev3_lt d⟩ ⟨k0_dev4 d, k0_dev4_lt d⟩ p.2
    agSteps d ps

def rsList : List (Fin 15 × Fin 2) :=
  [(0, 0), (1, 1), (2, 0), (3, 1), (4, 0), (5, 1), (6, 0), (7, 1), (8, 0), (9, 1), (10, 0), (11, 1), (12, 0), (13, 1), (14, 0)]
def agList : List (Fin 15 × Fin 2) :=
  [(0, 1), (1, 0), (2, 1), (3, 0), (4, 1), (5, 0), (6, 1), (7, 0), (8, 1), (9, 0), (10, 1), (11, 0), (12, 1), (13, 0), (14, 1)]

/-- The entry handshake's semaphore. -/
abbrev barS : Sems sig S_ := SemArray.scalar (sig.barrier 0 rfl)

/-- The kernel body. -/
def nbody : Prog (TpuEff nD τ sig (Elt F) Λ₀ .tc) PUnit := do
  let d : Dev nD ← Prog.lift .deviceId
  semSignalWord (⟨k0_dev1 d, k0_dev1_lt d⟩ : Dev nD) barS.sem 1#32
  semSignalWord (⟨k0_dev2 d, k0_dev2_lt d⟩ : Dev nD) barS.sem 1#32
  semWaitWord barS.sem 2#32
  attention arg0 arg1 arg2 arg3 arg4 arg5
  rsSteps arg5 arg6 arg7 arg8 arg9 arg10 arg11 d rsList
  agSteps arg5 arg8 arg9 arg10 arg11 d agList

end Prog

end Cert.KernelIdeal.Ring

end
-- ==== Proof.KernelIdeal.Sched.lean ====
/-
  The protocol of the bidirectional ring: the buffers and semaphores, what each direction carries at each of its thirty
  steps, and for every semaphore who signals it, in which round, how much, and what the signal hands over.
-/
module

public import proofs.«01_k».proof.Proof.KernelIdeal.Norm
public import proofs.«01_k».proof.Proof.Gen.KernelIdeal.Launch
public import Idealize.ShloMosaic.Lib.Rounds
public import Idealize.ShloMosaic.Lib.Pipeline.Regions
public import Idealize.ShloMosaic.Lib.Pipeline.RegionTalk
public import Idealize.ShloMosaic.Lib.Pipeline.Kit
public import Idealize.ShloMosaic.Lib.StableHlo
public import Idealize.ShloMosaic.Lib.Tactic
public import Mathlib.Algebra.BigOperators.Intervals

@[expose] public section

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- One copy of the ring protocol's ghost state beside the pipeline's. -/
abbrev UU : Type := UR sig nD τ × Rounds.URounds (GSem nD τ sig) Bool

local notation "𝕄" => MT nD τ sig ℕ (Elt F) ℕ UU ℕ

abbrev EP : Emb (UR sig nD τ) (MT nD τ sig ℕ (Elt F) ℕ UU ℕ) := embL
abbrev ER : Emb (Rounds.URounds (GSem nD τ sig) Bool) (MT nD τ sig ℕ (Elt F) ℕ UU ℕ) := embR

/-! ## The ring: directions, chunks, slots. Direction `false` sends to the right neighbour, `true` to the left. -/

/-- The neighbour to which direction `b` sends. -/
def nbr : Bool → Dev nD → Dev nD
  | false, c => ⟨(c.val + 1) % 16, Nat.mod_lt _ (by decide)⟩
  | true, c => ⟨(c.val + 15) % 16, Nat.mod_lt _ (by decide)⟩

theorem nbr_nbr (b : Bool) (c : Dev nD) : nbr b (nbr (!b) c) = c := by revert b c; decide
theorem nbr_nbr' (b : Bool) (c : Dev nD) : nbr (!b) (nbr b c) = c := by revert b c; decide

/-- The row block that direction `b` of device `c` sends `j` steps after the start. -/
def chunk : Bool → Dev nD → ℕ → Fin 16
  | false, c, j => ⟨(c.val + (32 - j % 16)) % 16, Nat.mod_lt _ (by decide)⟩
  | true, c, j => ⟨(c.val + j % 16) % 16, Nat.mod_lt _ (by decide)⟩

theorem chunk_mod (b : Bool) (c : Dev nD) (j : ℕ) : chunk b c (j % 16) = chunk b c j := by
  cases b <;> simp [chunk]
theorem chunk_nbr (b : Bool) (c : Dev nD) (j : ℕ) : chunk b (nbr b c) (j + 1) = chunk b c j := by
  have hc : c.val < 16 := c.isLt
  cases b <;> apply Fin.ext <;> simp only [chunk, nbr] <;> omega
theorem chunk_congr (b : Bool) (c : Dev nD) {i j : ℕ} (h : i % 16 = j % 16) : chunk b c i = chunk b c j := by
  rw [← chunk_mod, h, chunk_mod]
theorem chunk_inj (b : Bool) (c : Dev nD) {i j : Fin 16} (h : chunk b c i = chunk b c j) : i = j := by
  have hc : c.val < 16 := c.isLt
  have h' := congrArg Fin.val h
  apply Fin.ext
  cases b <;> simp only [chunk] at h' <;> omega

/-- The slot that serves step `k`. -/
def sl (k : ℕ) : Fin 2 := ⟨k % 2, Nat.mod_lt _ (by decide)⟩
theorem sl_add_two (k : ℕ) : sl (k + 2) = sl k := by apply Fin.ext; simp [sl]

/-! ## Buffers and semaphores -/

abbrev outM : Memref sig .tc .vmem S2048x1024 .f32 := Memref.whole cc0_stg5_0
abbrev commM : Bool → Memref sig .tc .vmem S2x128x512 .f32
  | false => Memref.whole cc0_scratch0
  | true => Memref.whole cc0_scratch1
abbrev sendA : Bool → DmaSems sig S2
  | false => cc0_scratch2
  | true => cc0_scratch4
abbrev recvA : Bool → DmaSems sig S2
  | false => cc0_scratch3
  | true => cc0_scratch5

def sendS (b : Bool) (s : Fin 2) : DmaSem sig := ⟨6 + 4 * b.toNat + s.val, by show _ < 14; have := s.isLt; cases b <;> simp only [Bool.toNat] <;> simp <;> omega⟩
def recvS (b : Bool) (s : Fin 2) : DmaSem sig := ⟨8 + 4 * b.toNat + s.val, by show _ < 14; have := s.isLt; cases b <;> simp only [Bool.toNat] <;> simp <;> omega⟩
theorem semV_send (b : Bool) (s : Fin 2) : semV (sendA b) s = sendS b s := by revert b s; decide
theorem semV_recv (b : Bool) (s : Fin 2) : semV (recvA b) s = recvS b s := by revert b s; decide

abbrev barCell (c : Dev nD) : GSem nD τ sig := ((c : Thread nD τ), .reg barS.sem)
abbrev sendCell (b : Bool) (c : Dev nD) (s : Fin 2) : GSem nD τ sig := ((c : Thread nD τ), .dma (sendS b s))
abbrev recvCell (b : Bool) (c : Dev nD) (s : Fin 2) : GSem nD τ sig := ((c : Thread nD τ), .dma (recvS b s))

theorem inbTile (b : Bool) (a : Fin 16) : In ![128 * a.val, 512 * b.toNat] := by
  revert b a; decide
/-- Row block `a` of the half of the result that direction `b` carries. -/
def tileV (b : Bool) (a : Fin 16) : Memref sig .tc .vmem S128x512 .f32 := blkV outM ![128 * a.val, 512 * b.toNat] (inbTile b a)

/-- What direction `b` reads on device `c` at step `k`, and where its copy lands on `c`. -/
def srcV (b : Bool) (c : Dev nD) (k : ℕ) : Memref sig .tc .vmem S128x512 .f32 := tileV b (chunk b c k)
def dstV (b : Bool) (c : Dev nD) (k : ℕ) : Memref sig .tc .vmem S128x512 .f32 :=
  if k < 15 then slotV (commM b) (sl k) else tileV b (chunk b c (k - 15))

theorem dstV_rs (b : Bool) (c : Dev nD) {k : ℕ} (h : k < 15) : dstV b c k = slotV (commM b) (sl k) := if_pos h
theorem dstV_ag (b : Bool) (c : Dev nD) {k : ℕ} (h : ¬ k < 15) : dstV b c k = tileV b (chunk b c (k - 15)) := if_neg h
/-- In the second half of the ring the copy lands on the very block it was read from. -/
theorem dstV_nbr (b : Bool) (c : Dev nD) {k : ℕ} (h : ¬ k < 15) : dstV b (nbr b c) k = srcV b c k := by
  rw [dstV_ag b _ h, srcV]
  congr 1
  rw [← chunk_nbr b c k]
  exact chunk_congr b _ (by omega)

/-- Units credited by one copy. -/
def N : ℕ := (tileV false 0).view.dmaCredit
theorem N_pos : 0 < N := View.dmaCredit_pos _ (by decide)
theorem credit_dst (b : Bool) (c : Dev nD) (k : ℕ) : (dstV b c k).view.dmaCredit = N := by
  unfold dstV; split
  · cases b <;> rfl
  · rfl
theorem credit_src (b : Bool) (c : Dev nD) (k : ℕ) : (srcV b c k).view.dmaCredit = N := rfl

/-! ## Contents -/

abbrev ptV (v : Memref sig .tc .vmem S128x512 .f32) (c : Dev nD) (f : Buf (Elt F) (v.view.loc (c : Thread nD τ))) : sProp 𝕄 :=
  v.view.loc (c : Thread nD τ) ↦[v.view.set]{fullShare} f
/-- The elements of a block, reading as `X`. -/
def hold (v : Memref sig .tc .vmem S128x512 .f32) (c : Dev nD) (X : Vec F S128x512 .f32) : sProp 𝕄 :=
  iprop(∃ f : Buf (Elt F) (v.view.loc (c : Thread nD τ)), ⌜v.view.read (Elt F) f = X⌝ ∗ ptV v c f)
/-- The elements of a block, at whatever they hold. -/
def anyOf (v : Memref sig .tc .vmem S128x512 .f32) (c : Dev nD) : sProp 𝕄 :=
  iprop(∃ f : Buf (Elt F) (v.view.loc (c : Thread nD τ)), ptV v c f)

variable (A : Dev nD → outM.view.ref.ty.Contents (Elt F))

/-- A row block of device `c`'s local result. -/
def blk (b : Bool) (c : Dev nD) (a : Fin 16) : Vec F S128x512 .f32 := (tileV b a).view.read (Elt F) (A c)

/-- What direction `b` of device `c` sends at step `k`: at first its own block; in the first half of the ring what has
    arrived added to its own; in the second half what has arrived. -/
def sent (b : Bool) : ℕ → Dev nD → Vec F S128x512 .f32
  | 0, c => blk A b c (chunk b c 0)
  | k + 1, c => if k < 15 then addf (blk A b c (chunk b c (k + 1))) (sent b k (nbr (!b) c)) else sent b k (nbr (!b) c)

/-! ## The schedule -/

/-- The right to write where step `k` of direction `b` lands on device `c`. -/
def credit (b : Bool) (c : Dev nD) (k : ℕ) : sProp 𝕄 :=
  if k < 30 then iprop(anyOf (F := F) (dstV b c k) c ∗ reached ER (recvCell b c (sl k)) (k / 2)) else iprop(emp)
/-- What step `k`'s landing hands to device `c`: the block that arrived, and the right to write where the other direction's
    next step lands on the neighbour it came from. -/
def recvPay (b : Bool) (c : Dev nD) (k : ℕ) : sProp 𝕄 :=
  iprop(hold (dstV b c k) c (sent A b k (nbr (!b) c)) ∗ credit (F := F) (!b) (nbr (!b) c) (k + 1))
/-- What step `k`'s departure hands back to device `c`. -/
def sendPay (b : Bool) (c : Dev nD) (k : ℕ) : sProp 𝕄 := hold (srcV b c k) c (sent A b k c)

def dirOf (n : ℕ) : Bool := decide (10 ≤ n)
def inOf (n : ℕ) : Bool := decide (n / 2 % 2 = 0)

def rd : Rounds.Schedule (GSem nD τ sig) Bool 𝕄 where
  duties g r := if g.1.2 = .tc then (match g.2 with
    | .reg _ => if r = 0 then Finset.univ else ∅
    | .dma n => if 6 ≤ n.val ∧ 2 * r + n.val % 2 < 30 then {false} else ∅) else ∅
  unitless _ := False
  amount g _ _ := match g.2 with
    | .reg _ => 1
    | .dma _ => N
  payload g r d := match g.2 with
    | .reg _ => credit (F := F) d (nbr d g.1.1) 0
    | .dma n => if inOf n.val then recvPay A (dirOf n.val) g.1.1 (2 * r + n.val % 2) else sendPay A (dirOf n.val) g.1.1 (2 * r + n.val % 2)
  amount_pos g _ _ _ := by
    rcases g.2 with _ | _
    · exact Nat.one_pos
    · exact N_pos

instance credit_storable (b : Bool) (c : Dev nD) (k : ℕ) : BI.Storable (upEmb : UEmb _ 𝕄) (credit (F := F) b c k) := by
  unfold credit anyOf; split <;> infer_instance
instance recvPay_storable (b : Bool) (c : Dev nD) (k : ℕ) : BI.Storable (upEmb : UEmb _ 𝕄) (recvPay A b c k) := by
  unfold recvPay hold; infer_instance
instance sendPay_storable (b : Bool) (c : Dev nD) (k : ℕ) : BI.Storable (upEmb : UEmb _ 𝕄) (sendPay A b c k) := by
  unfold sendPay hold; infer_instance
instance rd_payload_storable (g : GSem nD τ sig) (r : ℕ) (d : Bool) : BI.Storable (upEmb : UEmb _ 𝕄) ((rd A).payload g r d) := by
  rcases g with ⟨t, s | n⟩
  · exact credit_storable d (nbr d t.1) 0
  · show BI.Storable upEmb (if inOf n.val then recvPay A (dirOf n.val) t.1 (2 * r + n.val % 2) else sendPay A (dirOf n.val) t.1 (2 * r + n.val % 2))
    split <;> infer_instance

/-! ### Its tables -/

section Tables
variable (b : Bool) (c : Dev nD) (k : ℕ)

theorem step_round : 2 * (k / 2) + k % 2 = k := Nat.div_add_mod k 2

theorem send_val (s : Fin 2) : (sendS b s).val = 6 + 4 * b.toNat + s.val := rfl
theorem recv_val (s : Fin 2) : (recvS b s).val = 8 + 4 * b.toNat + s.val := rfl
theorem send_ge (s : Fin 2) : 6 ≤ (sendS b s).val := by rw [send_val]; omega
theorem recv_ge (s : Fin 2) : 6 ≤ (recvS b s).val := by rw [recv_val]; omega
theorem send_mod (s : Fin 2) : (sendS b s).val % 2 = s.val := by revert b s; decide
theorem recv_mod (s : Fin 2) : (recvS b s).val % 2 = s.val := by revert b s; decide
theorem send_dir (s : Fin 2) : dirOf (sendS b s).val = b := by revert b s; decide
theorem recv_dir (s : Fin 2) : dirOf (recvS b s).val = b := by revert b s; decide
theorem send_in (s : Fin 2) : inOf (sendS b s).val = false := by revert b s; decide
theorem recv_in (s : Fin 2) : inOf (recvS b s).val = true := by revert b s; decide

theorem duties_bar : (rd A).duties (barCell c) 0 = Finset.univ := by
  dsimp only [rd]; rw [if_pos rfl, if_pos rfl]
theorem duties_bar_later (r : ℕ) (h : 1 ≤ r) : (rd A).duties (barCell c) r = ∅ := by
  dsimp only [rd]; rw [if_pos rfl, if_neg (by omega)]
theorem duties_dma (n : DmaSem sig) (r : ℕ) : (rd A).duties ((c : Thread nD τ), .dma n) r = if 6 ≤ n.val ∧ 2 * r + n.val % 2 < 30 then {false} else ∅ := by
  dsimp only [rd]; exact if_pos rfl
theorem duties_send (h : k < 30) : (rd A).duties (sendCell b c (sl k)) (k / 2) = {false} := by
  rw [duties_dma, if_pos ⟨send_ge _ _, by rw [send_mod]; show 2 * (k / 2) + k % 2 < 30; omega⟩]
theorem duties_recv (h : k < 30) : (rd A).duties (recvCell b c (sl k)) (k / 2) = {false} := by
  rw [duties_dma, if_pos ⟨recv_ge _ _, by rw [recv_mod]; show 2 * (k / 2) + k % 2 < 30; omega⟩]
theorem duties_dma_later (n : DmaSem sig) (r : ℕ) (h : 15 ≤ r) : (rd A).duties ((c : Thread nD τ), .dma n) r = ∅ := by
  rw [duties_dma, if_neg (by omega)]

theorem amount_bar (r : ℕ) (d : Bool) : (rd A).amount (barCell c) r d = 1 := rfl
theorem amount_dma (n : DmaSem sig) (r : ℕ) (d : Bool) : (rd A).amount ((c : Thread nD τ), .dma n) r d = N := rfl

theorem expect_bar : (rd A).expect (barCell c) 0 = 2 := by
  unfold Schedule.expect Schedule.amountOf; rw [duties_bar]; rfl
theorem expect_send (h : k < 30) : (rd A).expect (sendCell b c (sl k)) (k / 2) = N := by
  unfold Schedule.expect Schedule.amountOf; rw [duties_send A b c k h, Finset.sum_singleton, amount_dma]
theorem expect_recv (h : k < 30) : (rd A).expect (recvCell b c (sl k)) (k / 2) = N := by
  unfold Schedule.expect Schedule.amountOf; rw [duties_recv A b c k h, Finset.sum_singleton, amount_dma]

theorem payload_bar (r : ℕ) (d : Bool) : (rd A).payload (barCell c) r d = credit (F := F) d (nbr d c) 0 := rfl
theorem payload_send (d : Bool) : (rd A).payload (sendCell b c (sl k)) (k / 2) d = sendPay A b c k := by
  show (if inOf (sendS b (sl k)).val then recvPay A (dirOf (sendS b (sl k)).val) c (2 * (k / 2) + (sendS b (sl k)).val % 2)
    else sendPay A (dirOf (sendS b (sl k)).val) c (2 * (k / 2) + (sendS b (sl k)).val % 2)) = _
  rw [send_in, if_neg (by decide), send_dir, send_mod]
  show sendPay A b c (2 * (k / 2) + k % 2) = _
  rw [step_round]
theorem payload_recv (d : Bool) : (rd A).payload (recvCell b c (sl k)) (k / 2) d = recvPay A b c k := by
  show (if inOf (recvS b (sl k)).val then recvPay A (dirOf (recvS b (sl k)).val) c (2 * (k / 2) + (recvS b (sl k)).val % 2)
    else sendPay A (dirOf (recvS b (sl k)).val) c (2 * (k / 2) + (recvS b (sl k)).val % 2)) = _
  rw [recv_in, if_pos rfl, recv_dir, recv_mod]
  show recvPay A b c (2 * (k / 2) + k % 2) = _
  rw [step_round]

theorem rest_bar : bigSep ((rd A).duties (barCell c) 0 \ ∅) (fun d => (rd A).payload (barCell c) 0 d)
    = iprop(credit (F := F) false (nbr false c) 0 ∗ credit (F := F) true (nbr true c) 0) := by
  rw [Finset.sdiff_empty, duties_bar, bigSep_eq_bigSepL_of_eq [false, true] (by decide) (by decide)]
  rfl
theorem rest_send (h : k < 30) : bigSep ((rd A).duties (sendCell b c (sl k)) (k / 2) \ ∅) (fun d => (rd A).payload (sendCell b c (sl k)) (k / 2) d)
    = sendPay A b c k := by
  rw [Finset.sdiff_empty, duties_send A b c k h, bigSep_singleton, payload_send]
theorem rest_recv (h : k < 30) : bigSep ((rd A).duties (recvCell b c (sl k)) (k / 2) \ ∅) (fun d => (rd A).payload (recvCell b c (sl k)) (k / 2) d)
    = recvPay A b c k := by
  rw [Finset.sdiff_empty, duties_recv A b c k h, bigSep_singleton, payload_recv]

end Tables

/-! ## What is owed, and in which order the waits may happen -/

/-- The landings that direction `b` of device `c` still owes its neighbour before step `k`. -/
def owedR (b : Bool) (c : Dev nD) (k : ℕ) : CellTallies nD τ sig ℕ :=
  ∑ i ∈ Finset.Ico k 30, tallyAt (recvCell b (nbr b c) (sl i)) i N
theorem owedR_step (b : Bool) (c : Dev nD) {k : ℕ} (h : k < 30) :
    owedR b c k = owedR b c (k + 1) + tallyAt (recvCell b (nbr b c) (sl k)) k N := by
  unfold owedR; rw [Finset.sum_eq_sum_Ico_succ_bot h, add_comm]
theorem owedR_end (b : Bool) (c : Dev nD) : owedR b c 30 = 0 := by unfold owedR; rw [Finset.Ico_self, Finset.sum_empty]

/-- All that device `c` owes at entry: every landing and one unit to each neighbour's barrier semaphore. -/
def O₀ (c : Dev nD) : CellTallies nD τ sig ℕ :=
  owedR false c 0 + owedR true c 0 + tallyAt (barCell (nbr false c)) 0 1 + tallyAt (barCell (nbr true c)) 0 1

def L (g : GSem nD τ sig) : Finset ℕ := if g.1.2 = .tc then Finset.range 32 else ∅
def lv (g : GSem nD τ sig) (i : ℕ) : ℕ := match g.2 with
  | .reg _ => 1
  | .dma n => if 6 ≤ n.val ∧ inOf n.val then i + 2 else 0

theorem L_of_ne (g : GSem nD τ sig) (h : g.1.2 ≠ .tc) : L g = ∅ := if_neg h
theorem L_tc (c : Dev nD) (sm : SemLoc sig) : L ((c : Thread nD τ), sm) = Finset.range 32 := if_pos rfl
theorem lv_recv (b : Bool) (c : Dev nD) (s : Fin 2) (i : ℕ) : lv (recvCell b c s) i = i + 2 := by
  show (if _ then _ else _) = _
  rw [if_pos ⟨recv_ge b s, recv_in b s⟩]
theorem lv_send (b : Bool) (c : Dev nD) (s : Fin 2) (i : ℕ) : lv (sendCell b c s) i = 0 := by
  show (if _ then _ else _) = _
  rw [if_neg (fun h => by rw [send_in] at h; exact absurd h.2 (by decide))]

theorem owedR_pos {b : Bool} {c : Dev nD} {k : ℕ} {g : GSem nD τ sig} {i : ℕ} (h : 0 < owedR b c k g i) :
    k ≤ i ∧ i < 30 ∧ g = recvCell b (nbr b c) (sl i) := by
  obtain ⟨j, hj, hpos⟩ := Pipeline.sum_pos_exists h
  rw [tallyAt_apply] at hpos
  by_cases hg : g = recvCell b (nbr b c) (sl j) ∧ i = j
  · obtain ⟨rfl, rfl⟩ := hg
    exact ⟨(Finset.mem_Ico.mp hj).1, (Finset.mem_Ico.mp hj).2, rfl⟩
  · rw [if_neg hg] at hpos; exact absurd hpos (Nat.lt_irrefl 0)

/-- While steps from `k₀` and `k₁` on are owed, a wait at a smaller level is in order. -/
theorem mayWait_cut (c : Dev nD) (sm : SemLoc sig) (ι k₀ k₁ : ℕ) (hι : ι < 32) (h₀ : lv ((c : Thread nD τ), sm) ι < k₀ + 2)
    (h₁ : lv ((c : Thread nD τ), sm) ι < k₁ + 2) :
    (levAts L lv : sProp 𝕄) ⊢ MayWait (c : Thread nD τ) sm ι (owedR false c k₀ + owedR true c k₁) := by
  have key : ∀ (g : GSem nD τ sig) (i : ℕ), 0 < (owedR false c k₀ + owedR true c k₁) g i →
      ∃ b, ∃ s, g = recvCell b (nbr b c) s ∧ i < 30 ∧ lv ((c : Thread nD τ), sm) ι < i + 2 := by
    intro g i hg
    have hg' : 0 < owedR false c k₀ g i + owedR true c k₁ g i := hg
    rcases Nat.eq_zero_or_pos (owedR false c k₀ g i) with hz | hp
    · rw [hz, Nat.zero_add] at hg'
      obtain ⟨a1, a2, a3⟩ := owedR_pos hg'
      exact ⟨true, _, a3, a2, by omega⟩
    · obtain ⟨a1, a2, a3⟩ := owedR_pos hp
      exact ⟨false, _, a3, a2, by omega⟩
  refine MayOwe.of_cut (L := L) (lev := lv) (lv ((c : Thread nD τ), sm) ι) (fun p hp => ?_) (fun g i hg => ?_) (fun p hp => ?_) (fun g i hg => ?_)
  · rw [Finset.mem_singleton.mp hp, L_tc]; exact Finset.mem_range.mpr hι
  · obtain ⟨b, s, rfl, h, -⟩ := key g i hg
    rw [L_tc]; exact Finset.mem_range.mpr (by omega)
  · rw [Finset.mem_singleton.mp hp]
  · obtain ⟨b, s, rfl, -, h⟩ := key g i hg
    rw [lv_recv]; exact h

end Cert.KernelIdeal.Ring

end
-- ==== Proof.KernelIdeal.Step.lean ====
/-
  Each operation of the ring once, for a direction and a step that are variables: starting a copy, waiting for its departure
  and for the arrival, and adding what has arrived.
-/
module

public import proofs.«01_k».proof.Proof.KernelIdeal.Sched

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

abbrev 𝒱₀ : Variants := Variants.none

variable (A : Dev nD → outM.view.ref.ty.Contents (Elt F))

/-- A member of a conjunction, and the rest. -/
theorem part {I : Type} [DecidableEq I] {s : Finset I} {i : I} (h : i ∈ s) (Φ : I → sProp 𝕄) :
    bigSep s Φ = iprop(Φ i ∗ bigSep (s.erase i) Φ) := bigSep_erase h
theorem pick {I : Type} [DecidableEq I] {s : Finset I} {i : I} (h : i ∈ s) {Φ : I → sProp 𝕄} : bigSep s Φ ⊢ Φ i := by
  rw [part h]; iintro ⟨H, -⟩; iexact H

/-! ## The cells' invariants -/

abbrev barCells : Finset (GSem nD τ sig) := Finset.univ.image barCell
abbrev scCells : Finset (GSem nD τ sig) :=
  (Finset.univ.image fun x : Dev nD × Bool × Fin 2 => sendCell x.2.1 x.1 x.2.2)
    ∪ Finset.univ.image fun x : Dev nD × Bool × Fin 2 => recvCell x.2.1 x.1 x.2.2

/-- Every cell's invariant, at the names `K`, and the order of the waits. -/
def ctx (K : GSem nD τ sig → ℕ) : sProp 𝕄 :=
  iprop(bigSep (barCells ∪ scCells) (fun g => cellInv ER (rd A) (K g) g) ∗ levAts L lv)

instance ctx_persistent (K : GSem nD τ sig → ℕ) : BI.Persistent (ctx A K) := by unfold ctx; infer_instance

theorem ctx_bar (K : GSem nD τ sig → ℕ) (c : Dev nD) : ctx A K ⊢ cellInv ER (rd A) (K (barCell c)) (barCell c) := by
  unfold ctx
  iintro ⟨H, -⟩
  iapply (pick (i := barCell c) (Finset.mem_union_left _ (Finset.mem_image_of_mem _ (Finset.mem_univ c)))) $$ H
theorem ctx_send (K : GSem nD τ sig → ℕ) (b : Bool) (c : Dev nD) (s : Fin 2) :
    ctx A K ⊢ cellInv ER (rd A) (K (sendCell b c s)) (sendCell b c s) := by
  unfold ctx
  iintro ⟨H, -⟩
  iapply (pick (i := sendCell b c s) (Finset.mem_union_right _ (Finset.mem_union_left _
    (Finset.mem_image.mpr ⟨(c, b, s), Finset.mem_univ _, rfl⟩)))) $$ H
theorem ctx_recv (K : GSem nD τ sig → ℕ) (b : Bool) (c : Dev nD) (s : Fin 2) :
    ctx A K ⊢ cellInv ER (rd A) (K (recvCell b c s)) (recvCell b c s) := by
  unfold ctx
  iintro ⟨H, -⟩
  iapply (pick (i := recvCell b c s) (Finset.mem_union_right _ (Finset.mem_union_right _
    (Finset.mem_image.mpr ⟨(c, b, s), Finset.mem_univ _, rfl⟩)))) $$ H
theorem ctx_lev (K : GSem nD τ sig → ℕ) : ctx A K ⊢ (levAts L lv : sProp 𝕄) := by
  unfold ctx; iintro ⟨-, H⟩; iexact H

theorem ctx_wait (K : GSem nD τ sig → ℕ) (c : Dev nD) (sm : SemLoc sig) (ι k₀ k₁ : ℕ) (hι : ι < 32)
    (h₀ : lv ((c : Thread nD τ), sm) ι < k₀ + 2) (h₁ : lv ((c : Thread nD τ), sm) ι < k₁ + 2) :
    ctx A K ⊢ MayWait (c : Thread nD τ) sm ι (owedR false c k₀ + owedR true c k₁) :=
  (ctx_lev A K).trans (@mayWait_cut F _ _ c sm ι k₀ k₁ hι h₀ h₁)

/-! ## The operations -/

section Ops
variable (K : GSem nD τ sig → ℕ) (b : Bool) (c : Dev nD) {k : ℕ} {W : Waits sig ℕ}

/-- Starting step `k`'s copy: it takes the block sent, the right to write where it lands, and the right to write where the
    other direction's next step lands here. -/
theorem send_op {Q : PUnit → sProp 𝕄} (hk : k < 30) {src dst : Memref sig .tc .vmem S128x512 .f32} (hs : src = srcV b c k) (hd : dst = dstV b (nbr b c) k)
    {d : Dev nD} (hd' : d = nbr b c) {sS sR : DmaSem sig} (hS : sS = sendS b (sl k)) (hR : sR = recvS b (sl k))
    {h1 : src.view.WordExact} {h2 : dst.view.WordExact}
    {hT : DmaTarget.Typed .vmem (SemLoc.dma sR) (.remote (Dev.tc d) dst (.dma sS))} {O₁ : CellTallies nD τ sig ℕ} (O : CellTallies nD τ sig ℕ)
    (hO : O₁ = O + tallyAt (recvCell b (nbr b c) (sl k)) k N) :
    iprop(ctx A K ∗ hold (srcV b c k) c (sent A b k c) ∗ credit (F := F) b (nbr b c) k ∗ credit (F := F) (!b) c (k + 1) ∗ owes (c : Thread nD τ) O₁ W
        ∗ dutyTok ER (sendCell b c (sl k)) (k / 2) false ∗ reached ER (sendCell b c (sl k)) (k / 2)
        ∗ dutyTok ER (recvCell b (nbr b c) (sl k)) (k / 2) false)
      ⊢ iprop(((cred (tallyAt (sendCell b c (sl k)) 0 N) ∗ owes (c : Thread nD τ) O W) -∗ Q ⟨⟩)
        -∗ wp frame (wpE (defs₀ (F := F)) 𝒱₀ c none) Set.univ
            (Prog.lift (.enqueueDma src (.remote (Dev.tc d) dst (.dma sS)) (.dma sR) h1 h2 hT)) Q) := by
  subst hs hd hd' hS hR
  rw [show credit (F := F) b (nbr b c) k = _ from if_pos hk]
  unfold hold anyOf
  iintro ⟨#Hctx, ⟨%fs, %hfs, Hsrc⟩, ⟨⟨%fd, Hdst⟩, #Hr2⟩, HF, HO, Ht1, #Hr1, Ht2⟩ Hk
  iapply (Rounds.wp_send_pointsTo_with 𝒱₀ ER (rd A) (c : Thread nD τ) none (c' := (nbr b c : Thread nD τ)) (src := srcV b c k) (dst := dstV b (nbr b c) k)
      (sS := .dma (sendS b (sl k))) (sem := .dma (recvS b (sl k))) (q := fullShare) (fs := fs) (fd := fd) (F := credit (F := F) (!b) c (k + 1))
      (κ₁ := K (sendCell b c (sl k))) (κ₂ := K (recvCell b (nbr b c) (sl k))) (r₁ := k / 2) (r₂ := k / 2) (d₁ := false) (d₂ := false)
      (by rw [duties_send A b c k hk]; exact Finset.mem_singleton_self _) (by rw [duties_recv A b _ k hk]; exact Finset.mem_singleton_self _)
      k 0 N (credit_dst b _ k) (amount_dma A c _ _ _) (amount_dma A _ _ _ _) O hO (W := W)
      (by
        rw [payload_send]; unfold sendPay hold
        iintro H; iexists fs
        isplitr
        · ipureintro; exact hfs
        · iexact H)
      (by
        rw [payload_recv]; unfold recvPay hold; rw [nbr_nbr']
        iintro ⟨H, HF⟩
        isplitl [H]
        · iexists ((dstV b (nbr b c) k).view.write (Elt F) fd ((srcV b c k).view.read (Elt F) fs) Finset.univ)
          isplitr
          · ipureintro; rw [View.read_write_univ, hfs]
          · iexact H
        · iexact HF)) $$ [Hsrc Hdst HF HO Ht1 Ht2]
  · isplitr; · iapply (ctx_send A K b c (sl k)); iexact Hctx
    isplitr; · iapply (ctx_recv A K b (nbr b c) (sl k)); iexact Hctx
    isplitl [Hsrc]; · iexact Hsrc
    isplitl [Hdst HF]
    · isplitl [Hdst] <;> iassumption
    isplitl [HO]; · iexact HO
    isplitl [Ht1]; · iexact Ht1
    isplitr; · iexact Hr1
    isplitl [Ht2]; · iexact Ht2
    iexact Hr2
  iintro H
  rw [wp_ret]
  imodintro
  iapply Hk; iexact H

/-- Waiting for step `k`'s departure: the block sent comes back. -/
theorem out_op {Q : PUnit → sProp 𝕄} (hk : k < 30) {s s' : Memref sig .tc .vmem S128x512 .f32} (hN : s'.view.dmaCredit = N) {sS : DmaSem sig} (hS : sS = sendS b (sl k))
    {h1 : s.view.WordExact} {h2 : s'.view.WordExact} (k₀ k₁ : ℕ) :
    iprop(ctx A K ∗ cred (tallyAt (sendCell b c (sl k)) 0 N) ∗ owes (c : Thread nD τ) (owedR false c k₀ + owedR true c k₁) W
        ∗ atPos ER (sendCell b c (sl k)) (k / 2) ∅ 0)
      ⊢ iprop((((∃ W, owes (c : Thread nD τ) (owedR false c k₀ + owedR true c k₁) W) ∗ atPos ER (sendCell b c (sl k)) ((k + 2) / 2) ∅ 0
          ∗ reached ER (sendCell b c (sl k)) ((k + 2) / 2) ∗ hold (srcV b c k) c (sent A b k c)) -∗ Q ⟨⟩)
        -∗ wp frame (wpE (defs₀ (F := F)) 𝒱₀ c none) Set.univ (Prog.lift (.waitDma2 sS s s' h1 h2)) Q) := by
  subst hS
  rw [show (k + 2) / 2 = k / 2 + 1 by omega]
  iintro ⟨#Hctx, Hc, HO, Hat⟩ Hk
  iapply (Rounds.wp_wait_rest_token 𝒱₀ ER (rd A) (c : Thread nD τ) none (κ := K (sendCell b c (sl k)))
      (wpE_waitDma2_eq 𝒱₀ (c : Thread nD τ) none Set.univ) (Set.mem_univ _) 0 (O := owedR false c k₀ + owedR true c k₁) (W := W) (R := k / 2) (m := 0) (T := ∅)
      ((Nat.zero_add _).trans (hN.trans (expect_send A b c k hk).symm))) $$ [Hc HO Hat]
  · isplitr; · iapply (ctx_send A K b c (sl k)); iexact Hctx
    isplitl [Hc]; · iapply (Entails.of_eq (by rw [hN])) $$ Hc
    isplitl [HO]; · iexact HO
    isplitr
    · iapply (ctx_wait A K c _ 0 k₀ k₁ (by decide) (by rw [lv_send]; omega) (by rw [lv_send]; omega)); iexact Hctx
    iexact Hat
  iintro ⟨HO, Hat, Hr, Hp⟩
  ihave Hp := (Entails.of_eq (rest_send A b c k hk)) $$ Hp
  rw [wp_ret]
  imodintro
  iapply Hk
  isplitl [HO]; · iexists _; iexact HO
  isplitl [Hat]; · iexact Hat
  isplitl [Hr]; · iexact Hr
  unfold sendPay
  iexact Hp

/-- Waiting for step `k`'s arrival: what has arrived, and the right to write where the other direction's next step lands. -/
theorem in_op {Q : PUnit → sProp 𝕄} (hk : k < 30) {s s' : Memref sig .tc .vmem S128x512 .f32} (hN : s'.view.dmaCredit = N) {sS : DmaSem sig} (hS : sS = recvS b (sl k))
    {h1 : s.view.WordExact} {h2 : s'.view.WordExact} (k₀ k₁ : ℕ) (h₀ : k < k₀) (h₁ : k < k₁) :
    iprop(ctx A K ∗ cred (tallyAt (recvCell b c (sl k)) k N) ∗ owes (c : Thread nD τ) (owedR false c k₀ + owedR true c k₁) W
        ∗ atPos ER (recvCell b c (sl k)) (k / 2) ∅ 0)
      ⊢ iprop((((∃ W, owes (c : Thread nD τ) (owedR false c k₀ + owedR true c k₁) W) ∗ atPos ER (recvCell b c (sl k)) ((k + 2) / 2) ∅ 0
          ∗ reached ER (recvCell b c (sl k)) ((k + 2) / 2) ∗ hold (dstV b c k) c (sent A b k (nbr (!b) c))
          ∗ credit (F := F) (!b) (nbr (!b) c) (k + 1)) -∗ Q ⟨⟩)
        -∗ wp frame (wpE (defs₀ (F := F)) 𝒱₀ c none) Set.univ (Prog.lift (.waitDma2 sS s s' h1 h2)) Q) := by
  subst hS
  rw [show (k + 2) / 2 = k / 2 + 1 by omega]
  iintro ⟨#Hctx, Hc, HO, Hat⟩ Hk
  iapply (Rounds.wp_wait_rest_token 𝒱₀ ER (rd A) (c : Thread nD τ) none (κ := K (recvCell b c (sl k)))
      (wpE_waitDma2_eq 𝒱₀ (c : Thread nD τ) none Set.univ) (Set.mem_univ _) k (O := owedR false c k₀ + owedR true c k₁) (W := W) (R := k / 2) (m := 0) (T := ∅)
      ((Nat.zero_add _).trans (hN.trans (expect_recv A b c k hk).symm))) $$ [Hc HO Hat]
  · isplitr; · iapply (ctx_recv A K b c (sl k)); iexact Hctx
    isplitl [Hc]; · iapply (Entails.of_eq (by rw [hN])) $$ Hc
    isplitl [HO]; · iexact HO
    isplitr
    · iapply (ctx_wait A K c _ k k₀ k₁ (by omega) (by rw [lv_recv]; omega) (by rw [lv_recv]; omega)); iexact Hctx
    iexact Hat
  iintro ⟨HO, Hat, Hr, Hp⟩
  ihave Hp := (Entails.of_eq (rest_recv A b c k hk)) $$ Hp
  rw [wp_ret]
  imodintro
  iapply Hk
  isplitl [HO]; · iexists _; iexact HO
  isplitl [Hat]; · iexact Hat
  isplitl [Hr]; · iexact Hr
  unfold recvPay
  iexact Hp

theorem cast_same {s : Shape} (x : Vec F s .f32) (h : s.ShapeCasts s) : shapeCast s x h = x :=
  funext fun j => congrArg x (Shape.reshapeEquiv_self h j)
theorem acc_value (x : Vec F S128x512 .f32) (y : Vec F S1x128x512 .f32) :
    k0_pay170 x y = addf x (shapeCast S128x512 y shapeCasts_S1x128x512_S128x512) := by
  unfold k0_pay170; dsimp only; rw [cast_same]

theorem tile_access (b : Bool) (a : Fin 16) (h : In ![128 * a.val, 512 * b.toNat]) :
    outM.access (Rect.unit (s := S2048x1024) ![128 * a.val, 512 * b.toNat] S128x512.size h) = (tileV b a).view := rfl
theorem slot_set (b : Bool) (s : Fin 2) :
    ((commM b).access (Rect.unit (s := S2x128x512) ![s.val, 0, 0] S1x128x512.size (inbSlot s))).set = (slotV (commM b) s).view.set :=
  (View.set_reshape _ _).symm
theorem slot_read (b : Bool) (s : Fin 2) (f : (slotV (commM b) s).view.ref.ty.Contents (Elt F)) :
    shapeCast S128x512 (((commM b).access (Rect.unit (s := S2x128x512) ![s.val, 0, 0] S1x128x512.size (inbSlot s))).read (Elt F) f) shapeCasts_S1x128x512_S128x512
      = (slotV (commM b) s).view.read (Elt F) f := rfl

/-- Adding what step `k`'s copy brought to the block that step `k + 1` sends. -/
theorem acc_op (b : Bool) (c : Dev nD) {Q : PUnit → sProp 𝕄} (a : Fin 16) (s : Fin 2) (X Y : Vec F S128x512 .f32) :
    iprop(hold (tileV b a) c X ∗ hold (slotV (commM b) s) c Y)
      ⊢ iprop(((hold (tileV b a) c (addf X Y) ∗ hold (slotV (commM b) s) c Y) -∗ Q ⟨⟩)
        -∗ wp frame (wpE (defs₀ (F := F)) 𝒱₀ c none) Set.univ (accum outM (commM b) ![128 * a.val, 512 * b.toNat] (inbTile b a) s) Q) := by
  unfold hold accum
  iintro ⟨⟨%f, %hf, Ho⟩, ⟨%g, %hg, Hs⟩⟩ Hk
  ihave Ho := (Entails.of_eq (show (ptV (tileV b a) c f : sProp 𝕄) = ((outM.access (Rect.unit (s := S2048x1024) ![128 * a.val, 512 * b.toNat] S128x512.size (inbTile b a))).loc (c : Thread nD τ)
    ↦[(tileV b a).view.set]{fullShare} f) from rfl)) $$ Ho
  ihave Hs := (Entails.of_eq (show (ptV (slotV (commM b) s) c g : sProp 𝕄) = (((commM b).access (Rect.unit (s := S2x128x512) ![s.val, 0, 0] S1x128x512.size (inbSlot s))).loc (c : Thread nD τ)
    ↦[(slotV (commM b) s).view.set]{fullShare} g) from rfl)) $$ Hs
  iapply (wp_load_rect 𝒱₀ (c : Thread nD τ) none Set.univ (m := outM) (f := f) (subset_refl (tileV b a).view.set)) $$ Ho
  iintro Ho
  iapply (wp_load_rect 𝒱₀ (c : Thread nD τ) none Set.univ (m := commM b) (f := g) (subset_of_eq (slot_set b s))) $$ Hs
  iintro Hs
  iapply (wp_load_rect 𝒱₀ (c : Thread nD τ) none Set.univ (m := outM) (f := f) (subset_refl (tileV b a).view.set)) $$ Ho
  iintro Ho
  iapply (wp_store 𝒱₀ (c : Thread nD τ) none Set.univ (m := outM)
    (r := Rect.unit (s := S2048x1024) ![128 * a.val, 512 * b.toNat] S128x512.size (inbTile b a)) (f := f) (S := (tileV b a).view.set)
    (by rw [View.setOn_univ]; exact subset_refl _)) $$ Ho
  iintro Ho
  rw [wp_ret]
  imodintro
  iapply Hk
  isplitl [Ho]
  · iexists _
    isplitr
    rotate_left
    · iexact Ho
    · ipureintro
      refine (View.read_write_univ _ _).trans ?_
      rw [acc_value]
      exact congrArg₂ addf hf hg
  · iexists g
    isplitr
    · ipureintro; exact hg
    · iexact Hs

end Ops

end Cert.KernelIdeal.Ring

end
-- ==== Proof.KernelIdeal.Steps.lean ====
/-
  One step of the ring in both directions, from the state before it to the state after it, and the thirty steps by
  induction. The state is the same formula in the step's number throughout.
-/
module

public import proofs.«01_k».proof.Proof.KernelIdeal.Step

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable (A : Dev nD → outM.view.ref.ty.Contents (Elt F))

/-! ## The buffers' state before step `k` -/

/-- What the row block `j` steps ahead holds before step `k`. -/
def cont (b : Bool) (c : Dev nD) (k j : ℕ) : Vec F S128x512 .f32 :=
  if j + 16 ≤ k then sent A b (16 + j) c else if j ≤ k then sent A b j c else blk A b c (chunk b c j)
/-- The row block `j` steps ahead, unless it is where step `k` lands. -/
def tileAt (b : Bool) (c : Dev nD) (k : ℕ) (j : Fin 16) : sProp 𝕄 :=
  if 15 ≤ k ∧ k < 30 ∧ j.val + 15 = k then iprop(emp) else hold (tileV b (chunk b c j.val)) c (cont A b c k j.val)
/-- The slots that are not where step `k` lands. -/
def slots (b : Bool) (c : Dev nD) (k : ℕ) : sProp 𝕄 :=
  iprop(anyOf (F := F) (slotV (commM b) (sl (k + 1))) c ∗ if k < 15 then iprop(emp) else anyOf (F := F) (slotV (commM b) (sl k)) c)
def own (b : Bool) (c : Dev nD) (k : ℕ) : sProp 𝕄 := iprop(bigSep Finset.univ (tileAt A b c k) ∗ slots (F := F) b c k)

theorem hold_any (v : Memref sig .tc .vmem S128x512 .f32) (c : Dev nD) (X : Vec F S128x512 .f32) : hold v c X ⊢ anyOf (F := F) v c := by
  unfold hold anyOf; iintro ⟨%f, -, H⟩; iexists f; iexact H

/-- A conjunction changed at a few members. -/
theorem change {I : Type} [Fintype I] [DecidableEq I] (D : Finset I) {Φ Ψ : I → sProp 𝕄} (h : ∀ i, i ∉ D → Φ i = Ψ i) :
    bigSep Finset.univ Φ ⊢ iprop(bigSep D Φ ∗ (bigSep D Ψ -∗ bigSep Finset.univ Ψ)) := by
  rw [show bigSep Finset.univ Φ = iprop(bigSep D Φ ∗ bigSep (Finset.univ \ D) Φ) from bigSep_sdiff_split (Finset.subset_univ D),
    show bigSep Finset.univ Ψ = iprop(bigSep D Ψ ∗ bigSep (Finset.univ \ D) Ψ) from bigSep_sdiff_split (Finset.subset_univ D),
    show bigSep (Finset.univ \ D) Φ = bigSep (Finset.univ \ D) Ψ from bigSep_congr fun i hi => h i (Finset.mem_sdiff.mp hi).2]
  iintro ⟨H1, H2⟩
  isplitl [H1]; · iexact H1
  iintro H; isplitl [H] <;> iassumption

theorem big_two {I : Type} [DecidableEq I] {i j : I} (h : i ≠ j) (Φ : I → sProp 𝕄) : bigSep {i, j} Φ = iprop(Φ i ∗ Φ j) := by
  have e : bigSep (insert i {j}) Φ = iprop(Φ i ∗ bigSep {j} Φ) := bigSep_insert (by simpa using h)
  rw [e, bigSep_singleton]
theorem big_three {I : Type} [DecidableEq I] {i j l : I} (h : i ≠ j) (h' : i ≠ l) (h'' : j ≠ l) (Φ : I → sProp 𝕄) :
    bigSep {i, j, l} Φ = iprop(Φ i ∗ Φ j ∗ Φ l) := by
  have e : bigSep (insert i {j, l}) Φ = iprop(Φ i ∗ bigSep {j, l} Φ) := bigSep_insert (by simp [h, h'])
  rw [e, big_two h'']

theorem tileAt_hold (b : Bool) (c : Dev nD) (k : ℕ) (j : Fin 16) (h : ¬(15 ≤ k ∧ k < 30 ∧ j.val + 15 = k)) :
    tileAt A b c k j = hold (tileV b (chunk b c j.val)) c (cont A b c k j.val) := if_neg h
theorem tileAt_gone (b : Bool) (c : Dev nD) (k : ℕ) (j : Fin 16) (h : 15 ≤ k ∧ k < 30 ∧ j.val + 15 = k) :
    tileAt A b c k j = iprop(emp) := if_pos h

/-- The index of the block sent at step `k`. -/
def jx (k : ℕ) : Fin 16 := ⟨k % 16, Nat.mod_lt _ (by decide)⟩
theorem jx_val (k : ℕ) : (jx k).val = k % 16 := rfl
theorem jx_ne {i j : ℕ} (h : i % 16 ≠ j % 16) : jx i ≠ jx j := fun e => h (congrArg Fin.val e)

theorem cont_src (b : Bool) (c : Dev nD) (k : ℕ) (h : k < 30) : cont A b c k (k % 16) = sent A b k c := by
  unfold cont
  by_cases h1 : k % 16 + 16 ≤ k
  · rw [if_pos h1, show 16 + k % 16 = k by omega]
  · rw [if_neg h1, if_pos (Nat.mod_le _ _), show k % 16 = k by omega]
theorem cont_src' (b : Bool) (c : Dev nD) (k : ℕ) (h : k < 30) : cont A b c (k + 1) (k % 16) = sent A b k c := by
  unfold cont
  by_cases h1 : k % 16 + 16 ≤ k
  · rw [if_pos (by omega), show 16 + k % 16 = k by omega]
  · rw [if_neg (by omega), if_pos (by have := Nat.mod_le k 16; omega), show k % 16 = k by omega]

theorem src_before (b : Bool) (c : Dev nD) (k : ℕ) (h : k < 30) : tileAt A b c k (jx k) = hold (srcV b c k) c (sent A b k c) := by
  rw [tileAt_hold A b c k _ (by rw [jx_val]; omega), jx_val, cont_src A b c k h, chunk_mod]; rfl
theorem src_after (b : Bool) (c : Dev nD) (k : ℕ) (h : k < 30) : tileAt A b c (k + 1) (jx k) = hold (srcV b c k) c (sent A b k c) := by
  rw [tileAt_hold A b c _ _ (by rw [jx_val]; omega), jx_val, cont_src' A b c k h, chunk_mod]; rfl
theorem acc_before (b : Bool) (c : Dev nD) (k : ℕ) (h : k < 15) :
    tileAt A b c k (jx (k + 1)) = hold (tileV b (chunk b c (k + 1))) c (blk A b c (chunk b c (k + 1))) := by
  rw [tileAt_hold A b c k _ (by omega), jx_val, chunk_mod]
  unfold cont
  rw [if_neg (by omega), if_neg (by omega), chunk_mod]
theorem acc_after (b : Bool) (c : Dev nD) (k : ℕ) (h : k < 15) :
    tileAt A b c (k + 1) (jx (k + 1)) = hold (tileV b (chunk b c (k + 1))) c (sent A b (k + 1) c) := by
  rw [tileAt_hold A b c _ _ (by rw [jx_val]; omega), jx_val, chunk_mod]
  unfold cont
  rw [if_neg (by omega), if_pos (Nat.mod_le _ _), show (k + 1) % 16 = k + 1 by omega]
/-- The block on which the next step lands, before and after the right to write it is given away. -/
theorem give_before (b : Bool) (c : Dev nD) (k : ℕ) (h : 14 ≤ k) (h' : k < 29) :
    tileAt A b c k (jx (k + 1 - 15)) ⊢ anyOf (F := F) (dstV b c (k + 1)) c := by
  rw [tileAt_hold A b c k _ (by rw [jx_val]; omega), dstV_ag b c (by omega), jx_val, chunk_mod]
  exact hold_any _ _ _
theorem give_after (b : Bool) (c : Dev nD) (k : ℕ) (h : 14 ≤ k) (h' : k < 29) : tileAt A b c (k + 1) (jx (k + 1 - 15)) = iprop(emp) :=
  tileAt_gone A b c _ _ (by rw [jx_val]; omega)
theorem land_before (b : Bool) (c : Dev nD) (k : ℕ) (h : 15 ≤ k) (h' : k < 30) : tileAt A b c k (jx (k - 15)) = iprop(emp) :=
  tileAt_gone A b c _ _ (by rw [jx_val]; omega)
theorem land_after (b : Bool) (c : Dev nD) (k : ℕ) (h : 15 ≤ k) (h' : k < 30) :
    tileAt A b c (k + 1) (jx (k - 15)) = hold (dstV b c k) c (sent A b k (nbr (!b) c)) := by
  rw [tileAt_hold A b c _ _ (by rw [jx_val]; omega), dstV_ag b c (by omega), jx_val, chunk_mod]
  unfold cont
  rw [if_pos (by omega), show 16 + (k - 15) % 16 = k + 1 by omega]
  congr 1
  show (if k < 15 then _ else _) = _
  rw [if_neg (by omega)]

theorem same_at (b : Bool) (c : Dev nD) (k : ℕ) (j : Fin 16) (h1 : j.val ≠ k + 1 ∨ 15 ≤ k) (h2 : j.val + 15 ≠ k ∨ k < 15) (h3 : j.val + 14 ≠ k ∨ 29 ≤ k) (hk : k < 30) :
    tileAt A b c k j = tileAt A b c (k + 1) j := by
  have hj := j.isLt
  by_cases hc : j.val + 14 = k
  · -- only at the last step
    rw [tileAt_hold A b c k j (by omega), tileAt_hold A b c (k + 1) j (by omega)]
    unfold cont
    rw [if_neg (by omega), if_pos (by omega), if_neg (by omega), if_pos (by omega)]
  · rw [tileAt_hold A b c k j (by omega), tileAt_hold A b c (k + 1) j (by omega)]
    unfold cont
    by_cases h : j.val + 16 ≤ k
    · rw [if_pos h, if_pos (show j.val + 16 ≤ k + 1 by omega)]
    · rw [if_neg h, if_neg (show ¬ j.val + 16 ≤ k + 1 by omega)]
      by_cases h' : j.val ≤ k
      · rw [if_pos h', if_pos (show j.val ≤ k + 1 by omega)]
      · rw [if_neg h', if_neg (show ¬ j.val ≤ k + 1 by omega)]

theorem not_mem_jx {D : Finset (Fin 16)} {j : Fin 16} {i : ℕ} (h : j ∉ D) (hi : jx i ∈ D) : j.val ≠ i % 16 :=
  fun e => h (by rw [show j = jx i from Fin.ext e]; exact hi)

theorem slots_open (b : Bool) (c : Dev nD) (k : ℕ) (h : k < 15) : slots (F := F) b c k = iprop(anyOf (F := F) (slotV (commM b) (sl (k + 1))) c ∗ emp) := by
  unfold slots; rw [if_pos h]

/-- A reduce-scatter step's use of the buffers: the block it sends, the right to write where the next step lands, and the
    block it adds to; with these back and the slot, the state after the step. -/
theorem split_rs (b : Bool) (c : Dev nD) (k : ℕ) (hk : k < 15) :
    own A b c k ⊢ iprop(hold (srcV b c k) c (sent A b k c) ∗ anyOf (F := F) (dstV b c (k + 1)) c
      ∗ hold (tileV b (chunk b c (k + 1))) c (blk A b c (chunk b c (k + 1)))
      ∗ ((hold (srcV b c k) c (sent A b k c) ∗ hold (tileV b (chunk b c (k + 1))) c (sent A b (k + 1) c)
        ∗ anyOf (F := F) (slotV (commM b) (sl k)) c) -∗ own A b c (k + 1))) := by
  unfold own
  rw [slots_open b c k hk]
  by_cases h14 : k < 14
  · have hD := change {jx k, jx (k + 1)} (Φ := tileAt A b c k) (Ψ := tileAt A b c (k + 1)) (fun j hj =>
      same_at A b c k j (by have := not_mem_jx hj (i := k + 1) (by simp); omega) (by omega) (by omega) (by omega))
    rw [big_two (jx_ne (by omega)), big_two (jx_ne (by omega)), src_before A b c k (by omega), src_after A b c k (by omega),
      acc_before A b c k hk, acc_after A b c k hk] at hD
    iintro ⟨HT, HS, -⟩
    ihave HT := hD $$ HT
    icases HT with ⟨⟨H1, H2⟩, Hb⟩
    isplitl [H1]; · iexact H1
    isplitl [HS]; · rw [dstV_rs b c (by omega)]; iexact HS
    isplitl [H2]; · iexact H2
    iintro ⟨H1, H2, H3⟩
    isplitl [H1 H2 Hb]
    · iapply Hb; isplitl [H1] <;> iassumption
    · rw [slots_open b c (k + 1) (by omega), sl_add_two]
      isplitl [H3]; · iexact H3
      iempintro
  · obtain rfl : k = 14 := by omega
    have hD := change {jx 14, jx (14 + 1), jx (14 + 1 - 15)} (Φ := tileAt A b c 14) (Ψ := tileAt A b c (14 + 1)) (fun j hj =>
      same_at A b c 14 j (by have := not_mem_jx hj (i := 14 + 1) (by simp); omega) (by omega)
        (by have := not_mem_jx hj (i := 14 + 1 - 15) (by simp); omega) (by omega))
    rw [big_three (jx_ne (by omega)) (jx_ne (by omega)) (jx_ne (by omega)), big_three (jx_ne (by omega)) (jx_ne (by omega)) (jx_ne (by omega)),
      src_before A b c 14 (by omega), src_after A b c 14 (by omega),
      acc_before A b c 14 hk, acc_after A b c 14 hk, give_after A b c 14 (by omega) (by omega)] at hD
    iintro ⟨HT, HS, -⟩
    ihave HT := hD $$ HT
    icases HT with ⟨⟨H1, H2, H3⟩, Hb⟩
    isplitl [H1]; · iexact H1
    isplitl [H3]; · iapply (give_before A b c 14 (by omega) (by omega)) $$ H3
    isplitl [H2]; · iexact H2
    iintro ⟨H1, H2, H3⟩
    isplitl [H1 H2 Hb]
    · iapply Hb
      isplitl [H1]; · iexact H1
      isplitl [H2]; · iexact H2
      iempintro
    · unfold slots
      rw [if_neg (by omega), sl_add_two]
      isplitl [H3]; · iexact H3
      iexact HS

theorem slots_swap (b : Bool) (c : Dev nD) (k : ℕ) (h : 15 ≤ k) : slots (F := F) b c k ⊢ slots (F := F) b c (k + 1) := by
  unfold slots
  rw [if_neg (by omega), if_neg (by omega), sl_add_two]
  iintro ⟨H1, H2⟩
  isplitl [H2] <;> iassumption

/-- An all-gather step's use of the buffers. -/
theorem split_ag (b : Bool) (c : Dev nD) (k : ℕ) (h15 : 15 ≤ k) (hk : k < 30) :
    own A b c k ⊢ iprop(hold (srcV b c k) c (sent A b k c) ∗ (if k + 1 < 30 then anyOf (F := F) (dstV b c (k + 1)) c else iprop(emp))
      ∗ ((hold (srcV b c k) c (sent A b k c) ∗ hold (dstV b c k) c (sent A b k (nbr (!b) c))) -∗ own A b c (k + 1))) := by
  unfold own
  by_cases h29 : k < 29
  · rw [if_pos (by omega)]
    have hD := change {jx k, jx (k - 15), jx (k + 1 - 15)} (Φ := tileAt A b c k) (Ψ := tileAt A b c (k + 1)) (fun j hj =>
      same_at A b c k j (by omega) (by have := not_mem_jx hj (i := k - 15) (by simp); omega)
        (by have := not_mem_jx hj (i := k + 1 - 15) (by simp); omega) (by omega))
    rw [big_three (jx_ne (by omega)) (jx_ne (by omega)) (jx_ne (by omega)), big_three (jx_ne (by omega)) (jx_ne (by omega)) (jx_ne (by omega)),
      src_before A b c k hk, src_after A b c k hk, land_before A b c k h15 hk, land_after A b c k h15 hk, give_after A b c k (by omega) h29] at hD
    iintro ⟨HT, HS⟩
    ihave HT := hD $$ HT
    icases HT with ⟨⟨H1, -, H3⟩, Hb⟩
    isplitl [H1]; · iexact H1
    isplitl [H3]; · iapply (give_before A b c k (by omega) h29) $$ H3
    iintro ⟨H1, H2⟩
    isplitl [H1 H2 Hb]
    · iapply Hb
      isplitl [H1]; · iexact H1
      isplitl [H2]; · iexact H2
      iempintro
    · iapply (slots_swap b c k h15) $$ HS
  · rw [if_neg (by omega)]
    have hD := change {jx k, jx (k - 15)} (Φ := tileAt A b c k) (Ψ := tileAt A b c (k + 1)) (fun j hj =>
      same_at A b c k j (by omega) (by have := not_mem_jx hj (i := k - 15) (by simp); omega) (by omega) (by omega))
    rw [big_two (jx_ne (by omega)), big_two (jx_ne (by omega)),
      src_before A b c k hk, src_after A b c k hk, land_before A b c k h15 hk, land_after A b c k h15 hk] at hD
    iintro ⟨HT, HS⟩
    ihave HT := hD $$ HT
    icases HT with ⟨⟨H1, -⟩, Hb⟩
    isplitl [H1]; · iexact H1
    isplitr; · iempintro
    iintro ⟨H1, H2⟩
    isplitl [H1 H2 Hb]
    · iapply Hb
      isplitl [H1] <;> iassumption
    · iapply (slots_swap b c k h15) $$ HS

/-! ## The ghost state before step `k` -/

/-- What step `i` spends: the two duties of its copy, and the units its arrival brings. -/
def tok (b : Bool) (c : Dev nD) (i : ℕ) : sProp 𝕄 :=
  iprop(dutyTok ER (sendCell b c (sl i)) (i / 2) false ∗ dutyTok ER (recvCell b (nbr b c) (sl i)) (i / 2) false ∗ cred (tallyAt (recvCell b c (sl i)) i N))
/-- The positions of the two cells of one parity. -/
def pos (b : Bool) (c : Dev nD) (k : ℕ) : sProp 𝕄 :=
  iprop(atPos ER (sendCell b c (sl k)) (k / 2) ∅ 0 ∗ reached ER (sendCell b c (sl k)) (k / 2)
    ∗ atPos ER (recvCell b c (sl k)) (k / 2) ∅ 0 ∗ reached ER (recvCell b c (sl k)) (k / 2))
def ghost (b : Bool) (c : Dev nD) (k : ℕ) : sProp 𝕄 :=
  iprop(pos (F := F) b c k ∗ pos (F := F) b c (k + 1) ∗ bigSep (Finset.Ico k 30) (tok (F := F) b c))

theorem toks_step (b : Bool) (c : Dev nD) {k : ℕ} (h : k < 30) :
    bigSep (Finset.Ico k 30) (tok (F := F) b c) = iprop(tok (F := F) b c k ∗ bigSep (Finset.Ico (k + 1) 30) (tok (F := F) b c)) := by
  rw [part (i := k) (Finset.mem_Ico.mpr ⟨le_refl k, h⟩)]
  congr 2
  ext x; simp only [Finset.mem_erase, Finset.mem_Ico]; omega

/-- One direction's state before step `k`. -/
def dir (b : Bool) (c : Dev nD) (k : ℕ) : sProp 𝕄 := iprop(own A b c k ∗ credit (F := F) b (nbr b c) k ∗ ghost (F := F) b c k)
/-- The whole state before step `k`. -/
def ring (c : Dev nD) (k : ℕ) : sProp 𝕄 :=
  iprop(dir A false c k ∗ dir A true c k ∗ ∃ W, owes (c : Thread nD τ) (owedR false c k + owedR true c k) W)

theorem credit_slot (b : Bool) (s : Fin 2) : (slotV (commM b) s).view.dmaCredit = N := by cases b <;> rfl

end Cert.KernelIdeal.Ring

end
-- ==== Proof.KernelIdeal.RingRun.lean ====
/-
  The steps of the ring, and the thirty of them by induction.
-/
module

public import proofs.«01_k».proof.Proof.KernelIdeal.Steps

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable (A : Dev nD → outM.view.ref.ty.Contents (Elt F))

variable (K : GSem nD τ sig → ℕ)

/-- What the other core of a direction is waiting for while both directions' step `k` is under way. -/
abbrev still (c : Dev nD) (k : ℕ) : sProp 𝕄 := iprop(∃ W, owes (c : Thread nD τ) (owedR false c k + owedR true c k) W)

theorem credit_blk (o : Fin 2 → ℕ) (h : In o) : (blkV outM o h).view.dmaCredit = N := rfl

/-- The second half of a reduce-scatter step in one direction. -/
theorem half_rs (b : Bool) (c : Dev nD) {k : ℕ} (hk : k < 15) {Q : PUnit → sProp 𝕄} {o o' : Fin 2 → ℕ} {h : In o} {h' : In o'}
    (e : o' = ![128 * (chunk b c (k + 1)).val, 512 * b.toNat]) :
    iprop(ctx A K ∗ cred (tallyAt (sendCell b c (sl k)) 0 N) ∗ cred (tallyAt (recvCell b c (sl k)) k N) ∗ still (F := F) c (k + 1)
        ∗ atPos ER (sendCell b c (sl k)) (k / 2) ∅ 0 ∗ atPos ER (recvCell b c (sl k)) (k / 2) ∅ 0
        ∗ hold (tileV b (chunk b c (k + 1))) c (blk A b c (chunk b c (k + 1))))
      ⊢ iprop(((still (F := F) c (k + 1) ∗ pos (F := F) b c (k + 2) ∗ hold (srcV b c k) c (sent A b k c)
          ∗ hold (tileV b (chunk b c (k + 1))) c (sent A b (k + 1) c) ∗ anyOf (F := F) (slotV (commM b) (sl k)) c
          ∗ credit (F := F) (!b) (nbr (!b) c) (k + 1)) -∗ Q ⟨⟩)
        -∗ wp frame (wpE (defs₀ (F := F)) 𝒱₀ c none) Set.univ (waitOut outM (commM b) (sendA b) o h (sl k)) fun _ =>
          wp frame (wpE (defs₀ (F := F)) 𝒱₀ c none) Set.univ (waitIn outM (commM b) (recvA b) o h (sl k)) fun _ =>
          wp frame (wpE (defs₀ (F := F)) 𝒱₀ c none) Set.univ (accum outM (commM b) o' h' (sl k)) Q) := by
  subst e
  unfold waitOut waitIn
  iintro ⟨#Hctx, Hcs, Hcr, ⟨%W, HO⟩, Has, Har, Ht⟩ Hk
  iapply (out_op A K b c (s := slotV (commM b) (sl k)) (s' := blkV outM o h) (by omega) (credit_blk o h) (semV_send b (sl k)) (k + 1) (k + 1)) $$ [Hcs HO Has]
  · isplitr; · iexact Hctx
    isplitl [Hcs]; · iexact Hcs
    isplitl [HO] <;> iassumption
  iintro ⟨⟨%W', HO⟩, Has, Hrs, Hsrc⟩
  iapply (in_op A K b c (s := blkV outM o h) (s' := slotV (commM b) (sl k)) (by omega) (credit_slot b (sl k)) (semV_recv b (sl k)) (k + 1) (k + 1) (by omega) (by omega)) $$ [Hcr HO Har]
  · isplitr; · iexact Hctx
    isplitl [Hcr]; · iexact Hcr
    isplitl [HO] <;> iassumption
  iintro ⟨HO, Har, Hrr, Hl, HF⟩
  rw [dstV_rs b c hk]
  iapply (acc_op b c (chunk b c (k + 1)) (sl k) _ _) $$ [Ht Hl]
  · isplitl [Ht] <;> iassumption
  iintro ⟨Ht, Hl⟩
  iapply Hk
  isplitl [HO]; · iexact HO
  isplitl [Has Hrs Har Hrr]
  · unfold pos; rw [sl_add_two]
    isplitl [Has]; · iexact Has
    isplitl [Hrs]; · iexact Hrs
    isplitl [Har] <;> iassumption
  isplitl [Hsrc]; · iexact Hsrc
  isplitl [Ht]
  · rw [show sent A b (k + 1) c = addf (blk A b c (chunk b c (k + 1))) (sent A b k (nbr (!b) c)) from if_pos hk]
    iexact Ht
  isplitl [Hl]; · iapply (hold_any _ _ _) $$ Hl
  iexact HF

theorem pos_eq (b : Bool) (c : Dev nD) (k : ℕ) : (pos b c k : sProp 𝕄) = iprop(atPos ER (sendCell b c (sl k)) (k / 2) ∅ 0
    ∗ reached ER (sendCell b c (sl k)) (k / 2) ∗ atPos ER (recvCell b c (sl k)) (k / 2) ∅ 0 ∗ reached ER (recvCell b c (sl k)) (k / 2)) := rfl
theorem credit_make (b : Bool) (c : Dev nD) (k : ℕ) (h : k < 30) :
    iprop(anyOf (F := F) (dstV b c k) c ∗ reached ER (recvCell b c (sl k)) (k / 2)) ⊢ credit (F := F) b c k := by
  unfold credit; rw [if_pos h]

theorem credit_if (b : Bool) (c : Dev nD) (k : ℕ) :
    iprop((if k < 30 then anyOf (F := F) (dstV b c k) c else iprop(emp)) ∗ reached ER (recvCell b c (sl k)) (k / 2)) ⊢ credit (F := F) b c k := by
  unfold credit; split
  · exact BI.Entails.refl _
  · iintro -; iempintro

/-- The second half of an all-gather step in one direction. -/
theorem half_ag (b : Bool) (c : Dev nD) {k : ℕ} {o : Fin 2 → ℕ} {h : In o} (hk : k < 30) {Q : PUnit → sProp 𝕄} :
    iprop(ctx A K ∗ cred (tallyAt (sendCell b c (sl k)) 0 N) ∗ cred (tallyAt (recvCell b c (sl k)) k N) ∗ still (F := F) c (k + 1)
        ∗ atPos ER (sendCell b c (sl k)) (k / 2) ∅ 0 ∗ atPos ER (recvCell b c (sl k)) (k / 2) ∅ 0)
      ⊢ iprop(((still (F := F) c (k + 1) ∗ pos (F := F) b c (k + 2) ∗ hold (srcV b c k) c (sent A b k c)
          ∗ hold (dstV b c k) c (sent A b k (nbr (!b) c)) ∗ credit (F := F) (!b) (nbr (!b) c) (k + 1)) -∗ Q ⟨⟩)
        -∗ wp frame (wpE (defs₀ (F := F)) 𝒱₀ c none) Set.univ (waitBlk outM (sendA b) o h (sl k)) fun _ =>
          wp frame (wpE (defs₀ (F := F)) 𝒱₀ c none) Set.univ (waitBlk outM (recvA b) o h (sl k)) Q) := by
  unfold waitBlk
  iintro ⟨#Hctx, Hcs, Hcr, ⟨%W, HO⟩, Has, Har⟩ Hk
  iapply (out_op A K b c (s := blkV outM o h) (s' := blkV outM o h) hk (credit_blk o h) (semV_send b (sl k)) (k + 1) (k + 1)) $$ [Hcs HO Has]
  · isplitr; · iexact Hctx
    isplitl [Hcs]; · iexact Hcs
    isplitl [HO] <;> iassumption
  iintro ⟨⟨%W', HO⟩, Has, Hrs, Hsrc⟩
  iapply (in_op A K b c (s := blkV outM o h) (s' := blkV outM o h) hk (credit_blk o h) (semV_recv b (sl k)) (k + 1) (k + 1) (by omega) (by omega)) $$ [Hcr HO Har]
  · isplitr; · iexact Hctx
    isplitl [Hcr]; · iexact Hcr
    isplitl [HO] <;> iassumption
  iintro ⟨HO, Har, Hrr, Hl, HF⟩
  iapply Hk
  isplitl [HO]; · iexact HO
  isplitl [Has Hrs Har Hrr]
  · unfold pos; rw [sl_add_two]
    isplitl [Has]; · iexact Has
    isplitl [Hrs]; · iexact Hrs
    isplitl [Har] <;> iassumption
  isplitl [Hsrc]; · iexact Hsrc
  isplitl [Hl] <;> iassumption

/-- The two copies of step `k`, started one after the other. -/
theorem both_send (c : Dev nD) {k : ℕ} (hk : k < 30) {Q : PUnit → sProp 𝕄}
    {s₀ d₀ s₁ d₁ : Memref sig .tc .vmem S128x512 .f32} (es₀ : s₀ = srcV false c k) (ed₀ : d₀ = dstV false (nbr false c) k)
    (es₁ : s₁ = srcV true c k) (ed₁ : d₁ = dstV true (nbr true c) k) {dR dL : Dev nD} (hR : dR = nbr false c) (hL : dL = nbr true c)
    {h1 : s₀.view.WordExact} {h2 : d₀.view.WordExact} {h3 : s₁.view.WordExact} {h4 : d₁.view.WordExact}
    {hT : DmaTarget.Typed .vmem (SemLoc.dma (semV (recvA false) (sl k))) (.remote (Dev.tc dR) d₀ (.dma (semV (sendA false) (sl k))))}
    {hT' : DmaTarget.Typed .vmem (SemLoc.dma (semV (recvA true) (sl k))) (.remote (Dev.tc dL) d₁ (.dma (semV (sendA true) (sl k))))} :
    iprop(ctx A K ∗ still (F := F) c k
        ∗ (hold (srcV false c k) c (sent A false k c) ∗ credit (F := F) false (nbr false c) k ∗ credit (F := F) false c (k + 1)
          ∗ dutyTok ER (sendCell false c (sl k)) (k / 2) false ∗ dutyTok ER (recvCell false (nbr false c) (sl k)) (k / 2) false
          ∗ reached ER (sendCell false c (sl k)) (k / 2))
        ∗ (hold (srcV true c k) c (sent A true k c) ∗ credit (F := F) true (nbr true c) k ∗ credit (F := F) true c (k + 1)
          ∗ dutyTok ER (sendCell true c (sl k)) (k / 2) false ∗ dutyTok ER (recvCell true (nbr true c) (sl k)) (k / 2) false
          ∗ reached ER (sendCell true c (sl k)) (k / 2)))
      ⊢ iprop(((still (F := F) c (k + 1) ∗ cred (tallyAt (sendCell false c (sl k)) 0 N) ∗ cred (tallyAt (sendCell true c (sl k)) 0 N)) -∗ Q ⟨⟩)
        -∗ wp frame (wpE (defs₀ (F := F)) 𝒱₀ c none) Set.univ
            (Prog.lift (.enqueueDma s₀ (.remote (Dev.tc dR) d₀ (.dma (semV (sendA false) (sl k)))) (.dma (semV (recvA false) (sl k))) h1 h2 hT)) fun _ =>
          wp frame (wpE (defs₀ (F := F)) 𝒱₀ c none) Set.univ
            (Prog.lift (.enqueueDma s₁ (.remote (Dev.tc dL) d₁ (.dma (semV (sendA true) (sl k)))) (.dma (semV (recvA true) (sl k))) h3 h4 hT')) Q) := by
  iintro ⟨#Hctx, ⟨%W, HO⟩, ⟨S0, C0, N0, T0, U0, R0⟩, ⟨S1, C1, N1, T1, U1, R1⟩⟩ Hk
  iapply (send_op A K false c hk es₀ ed₀ hR (semV_send false (sl k)) (semV_recv false (sl k)) (O₁ := owedR false c k + owedR true c k) (owedR false c (k + 1) + owedR true c k)
    (by rw [owedR_step false c hk, add_right_comm])) $$ [S0 C0 N1 HO T0 R0 U0]
  · isplitr; · iexact Hctx
    isplitl [S0]; · iexact S0
    isplitl [C0]; · iexact C0
    isplitl [N1]; · iexact N1
    isplitl [HO]; · iexact HO
    isplitl [T0]; · iexact T0
    isplitl [R0] <;> iassumption
  iintro ⟨D0, HO⟩
  iapply (send_op A K true c hk es₁ ed₁ hL (semV_send true (sl k)) (semV_recv true (sl k)) (O₁ := owedR false c (k + 1) + owedR true c k) (owedR false c (k + 1) + owedR true c (k + 1))
    (by rw [owedR_step true c hk, add_assoc])) $$ [S1 C1 N0 HO T1 R1 U1]
  · isplitr; · iexact Hctx
    isplitl [S1]; · iexact S1
    isplitl [C1]; · iexact C1
    isplitl [N0]; · iexact N0
    isplitl [HO]; · iexact HO
    isplitl [T1]; · iexact T1
    isplitl [R1] <;> iassumption
  iintro ⟨D1, HO⟩
  iapply Hk
  isplitl [HO]; · iexists _; iexact HO
  isplitl [D0] <;> iassumption

section Step
variable (c : Dev nD) {k : ℕ} {dR dL : Dev nD} (hR : dR = nbr false c) (hL : dL = nbr true c)
include hR hL

/-- A reduce-scatter step. -/
theorem rs_step {Q : PUnit → sProp 𝕄} (hk : k < 15) {o1 o2 o3 o4 : Fin 2 → ℕ} {h1 : In o1} {h2 : In o2} {h3 : In o3} {h4 : In o4}
    (e1 : o1 = ![128 * (chunk false c k).val, 512 * false.toNat]) (e2 : o2 = ![128 * (chunk true c k).val, 512 * true.toNat])
    (e3 : o3 = ![128 * (chunk false c (k + 1)).val, 512 * false.toNat]) (e4 : o4 = ![128 * (chunk true c (k + 1)).val, 512 * true.toNat]) :
    iprop(ctx A K ∗ ring A c k)
      ⊢ iprop((ring A c (k + 1) -∗ Q ⟨⟩)
        -∗ wp frame (wpE (defs₀ (F := F)) 𝒱₀ c none) Set.univ (rsStep outM (commM false) (commM true) (sendA false) (recvA false) (sendA true) (recvA true)
            o1 o2 o3 o4 h1 h2 h3 h4 dR dL (sl k)) Q) := by
  subst e1 e2
  unfold rsStep
  simp only [wp_bind]
  unfold ring dir ghost
  rw [toks_step false c (k := k) (by omega), toks_step true c (k := k) (by omega)]
  unfold tok
  iintro ⟨#Hctx, ⟨Hw0, C0, P0, P0', ⟨T0, U0, D0⟩, B0⟩, ⟨Hw1, C1, P1, P1', ⟨T1, U1, D1⟩, B1⟩, HO⟩ Hk
  ihave Hw0 := (split_rs A false c k hk) $$ Hw0
  icases Hw0 with ⟨S0, G0, X0, Hb0⟩
  ihave Hw1 := (split_rs A true c k hk) $$ Hw1
  icases Hw1 with ⟨S1, G1, X1, Hb1⟩
  ihave P0 := (Entails.of_eq (pos_eq false c k)) $$ P0
  ihave P1 := (Entails.of_eq (pos_eq true c k)) $$ P1
  icases P0 with ⟨A0, #R0, E0, -⟩
  icases P1 with ⟨A1, #R1, E1, -⟩
  ihave P0' := (Entails.of_eq (pos_eq false c (k + 1))) $$ P0'
  ihave P1' := (Entails.of_eq (pos_eq true c (k + 1))) $$ P1'
  icases P0' with ⟨A0', #R0', E0', #V0⟩
  icases P1' with ⟨A1', #R1', E1', #V1⟩
  iapply (both_send A K c (k := k) (by omega) rfl (dstV_rs false _ hk).symm rfl (dstV_rs true _ hk).symm hR hL) $$ [HO S0 C0 G0 T0 U0 S1 C1 G1 T1 U1]
  · isplitr; · iexact Hctx
    isplitl [HO]; · iexact HO
    isplitl [S0 C0 G0 T0 U0]
    · isplitl [S0]; · iexact S0
      isplitl [C0]; · iexact C0
      isplitl [G0]
      · iapply (credit_make false c (k + 1) (by omega))
        isplitl [G0]; · iexact G0
        iexact V0
      isplitl [T0]; · iexact T0
      isplitl [U0]; · iexact U0
      iexact R0
    · isplitl [S1]; · iexact S1
      isplitl [C1]; · iexact C1
      isplitl [G1]
      · iapply (credit_make true c (k + 1) (by omega))
        isplitl [G1]; · iexact G1
        iexact V1
      isplitl [T1]; · iexact T1
      isplitl [U1]; · iexact U1
      iexact R1
  iintro ⟨HO, F0, F1⟩
  iapply (half_rs A K false c hk e3) $$ [HO F0 D0 A0 E0 X0]
  · isplitr; · iexact Hctx
    isplitl [F0]; · iexact F0
    isplitl [D0]; · iexact D0
    isplitl [HO]; · iexact HO
    isplitl [A0]; · iexact A0
    isplitl [E0] <;> iassumption
  iintro ⟨HO, P0, S0, X0, Y0, C1⟩
  iapply (half_rs A K true c hk e4) $$ [HO F1 D1 A1 E1 X1]
  · isplitr; · iexact Hctx
    isplitl [F1]; · iexact F1
    isplitl [D1]; · iexact D1
    isplitl [HO]; · iexact HO
    isplitl [A1]; · iexact A1
    isplitl [E1] <;> iassumption
  iintro ⟨HO, P1, S1, X1, Y1, C0⟩
  iapply Hk
  isplitl [S0 X0 Y0 Hb0 C0 P0 A0' E0' B0]
  · isplitl [S0 X0 Y0 Hb0]
    · iapply Hb0
      isplitl [S0]; · iexact S0
      isplitl [X0] <;> iassumption
    isplitl [C0]; · iexact C0
    isplitl [A0' E0']
    · unfold pos
      isplitl [A0']; · iexact A0'
      isplitr; · iexact R0'
      isplitl [E0']; · iexact E0'
      iexact V0
    isplitl [P0] <;> iassumption
  isplitl [S1 X1 Y1 Hb1 C1 P1 A1' E1' B1]
  · isplitl [S1 X1 Y1 Hb1]
    · iapply Hb1
      isplitl [S1]; · iexact S1
      isplitl [X1] <;> iassumption
    isplitl [C1]; · iexact C1
    isplitl [A1' E1']
    · unfold pos
      isplitl [A1']; · iexact A1'
      isplitr; · iexact R1'
      isplitl [E1']; · iexact E1'
      iexact V1
    isplitl [P1] <;> iassumption
  iexact HO

/-- An all-gather step. -/
theorem ag_step {Q : PUnit → sProp 𝕄} (h15 : 15 ≤ k) (hk : k < 30) {o1 o2 : Fin 2 → ℕ} {h1 : In o1} {h2 : In o2}
    (e1 : o1 = ![128 * (chunk false c k).val, 512 * false.toNat]) (e2 : o2 = ![128 * (chunk true c k).val, 512 * true.toNat]) :
    iprop(ctx A K ∗ ring A c k)
      ⊢ iprop((ring A c (k + 1) -∗ Q ⟨⟩)
        -∗ wp frame (wpE (defs₀ (F := F)) 𝒱₀ c none) Set.univ (agStep outM (sendA false) (recvA false) (sendA true) (recvA true)
            o1 o2 h1 h2 dR dL (sl k)) Q) := by
  subst e1 e2
  unfold agStep
  simp only [wp_bind]
  unfold ring dir ghost
  rw [toks_step false c (k := k) (by omega), toks_step true c (k := k) (by omega)]
  unfold tok
  iintro ⟨#Hctx, ⟨Hw0, C0, P0, P0', ⟨T0, U0, D0⟩, B0⟩, ⟨Hw1, C1, P1, P1', ⟨T1, U1, D1⟩, B1⟩, HO⟩ Hk
  ihave Hw0 := (split_ag A false c k h15 hk) $$ Hw0
  icases Hw0 with ⟨S0, G0, Hb0⟩
  ihave Hw1 := (split_ag A true c k h15 hk) $$ Hw1
  icases Hw1 with ⟨S1, G1, Hb1⟩
  ihave P0 := (Entails.of_eq (pos_eq false c k)) $$ P0
  ihave P1 := (Entails.of_eq (pos_eq true c k)) $$ P1
  icases P0 with ⟨A0, #R0, E0, -⟩
  icases P1 with ⟨A1, #R1, E1, -⟩
  ihave P0' := (Entails.of_eq (pos_eq false c (k + 1))) $$ P0'
  ihave P1' := (Entails.of_eq (pos_eq true c (k + 1))) $$ P1'
  icases P0' with ⟨A0', #R0', E0', #V0⟩
  icases P1' with ⟨A1', #R1', E1', #V1⟩
  iapply (both_send A K c (k := k) (by omega) rfl (dstV_nbr false c (by omega)).symm rfl (dstV_nbr true c (by omega)).symm hR hL) $$ [HO S0 C0 G0 T0 U0 S1 C1 G1 T1 U1]
  · isplitr; · iexact Hctx
    isplitl [HO]; · iexact HO
    isplitl [S0 C0 G0 T0 U0]
    · isplitl [S0]; · iexact S0
      isplitl [C0]; · iexact C0
      isplitl [G0]
      · iapply (credit_if false c (k + 1))
        isplitl [G0]; · iexact G0
        iexact V0
      isplitl [T0]; · iexact T0
      isplitl [U0]; · iexact U0
      iexact R0
    · isplitl [S1]; · iexact S1
      isplitl [C1]; · iexact C1
      isplitl [G1]
      · iapply (credit_if true c (k + 1))
        isplitl [G1]; · iexact G1
        iexact V1
      isplitl [T1]; · iexact T1
      isplitl [U1]; · iexact U1
      iexact R1
  iintro ⟨HO, F0, F1⟩
  iapply (half_ag A K false c (o := ![128 * (chunk false c k).val, 512 * false.toNat]) (h := h1) hk) $$ [HO F0 D0 A0 E0]
  · isplitr; · iexact Hctx
    isplitl [F0]; · iexact F0
    isplitl [D0]; · iexact D0
    isplitl [HO]; · iexact HO
    isplitl [A0] <;> iassumption
  iintro ⟨HO, P0, S0, X0, C1⟩
  iapply (half_ag A K true c (o := ![128 * (chunk true c k).val, 512 * true.toNat]) (h := h2) hk) $$ [HO F1 D1 A1 E1]
  · isplitr; · iexact Hctx
    isplitl [F1]; · iexact F1
    isplitl [D1]; · iexact D1
    isplitl [HO]; · iexact HO
    isplitl [A1] <;> iassumption
  iintro ⟨HO, P1, S1, X1, C0⟩
  iapply Hk
  isplitl [S0 X0 Hb0 C0 P0 A0' E0' B0]
  · isplitl [S0 X0 Hb0]
    · iapply Hb0
      isplitl [S0] <;> iassumption
    isplitl [C0]; · iexact C0
    isplitl [A0' E0']
    · unfold pos
      isplitl [A0']; · iexact A0'
      isplitr; · iexact R0'
      isplitl [E0']; · iexact E0'
      iexact V0
    isplitl [P0] <;> iassumption
  isplitl [S1 X1 Hb1 C1 P1 A1' E1' B1]
  · isplitl [S1 X1 Hb1]
    · iapply Hb1
      isplitl [S1] <;> iassumption
    isplitl [C1]; · iexact C1
    isplitl [A1' E1']
    · unfold pos
      isplitl [A1']; · iexact A1'
      isplitr; · iexact R1'
      isplitl [E1']; · iexact E1'
      iexact V1
    isplitl [P1] <;> iassumption
  iexact HO

end Step

/-! ## All thirty -/

/-- A list of steps that runs on from step `k`, its round numbers `base` behind. -/
def Runs (base : ℕ) : ℕ → List (Fin 15 × Fin 2) → Prop
  | _, [] => True
  | k, p :: ps => p.1.val + base = k ∧ p.2 = sl k ∧ Runs base (k + 1) ps

theorem off_eq (x y z : ℕ) (h : x = y) : (![128 * x, z] : Fin 2 → ℕ) = ![128 * y, z] := by rw [h]

theorem rs_run (c : Dev nD) {Q : PUnit → sProp 𝕄} : ∀ (l : List (Fin 15 × Fin 2)) (k : ℕ), Runs 0 k l →
    iprop(ctx A K ∗ ring A c k)
      ⊢ iprop((ring A c (k + l.length) -∗ Q ⟨⟩)
        -∗ wp frame (wpE (defs₀ (F := F)) 𝒱₀ c none) Set.univ (rsSteps outM (commM false) (commM true) (sendA false) (recvA false) (sendA true) (recvA true) c l) Q)
  | [], k, _ => by
    unfold rsSteps
    iintro ⟨-, H⟩ Hk
    rw [show (pure PUnit.unit : Prog (TpuEff nD τ sig (Elt F) Λ₀ .tc) PUnit) = .ret ⟨⟩ from rfl, wp_ret]
    imodintro
    iapply Hk; iexact H
  | p :: ps, k, ⟨h1, h2, h3⟩ => by
    have hp : p.1.val < 15 := p.1.isLt
    have hc : c.val < 16 := c.isLt
    unfold rsSteps
    rw [wp_bind, h2, show k + (p :: ps).length = k + 1 + ps.length by rw [List.length_cons]; omega]
    iintro ⟨#Hctx, H⟩ Hk
    iapply (rs_step A K c (Fin.ext ((k0_dev3_eq c).trans rfl)) (Fin.ext ((k0_dev4_eq c).trans rfl)) (by omega)
      ((k0_off1_eq c p.1).trans (off_eq _ _ _ (by show _ = (c.val + (32 - k % 16)) % 16; omega)))
      ((k0_off2_eq c p.1).trans (off_eq _ _ _ (by show _ = (c.val + k % 16) % 16; omega)))
      ((k0_off3_eq c p.1).trans (off_eq _ _ _ (by show _ = (c.val + (32 - (k + 1) % 16)) % 16; omega)))
      ((k0_off4_eq c p.1).trans (off_eq _ _ _ (by show _ = (c.val + (k + 1) % 16) % 16; omega)))) $$ [H]
    · isplitr; · iexact Hctx
      iexact H
    iintro H
    iapply (rs_run c ps (k + 1) h3) $$ [H]
    · isplitr; · iexact Hctx
      iexact H
    iexact Hk

theorem ag_run (c : Dev nD) {Q : PUnit → sProp 𝕄} : ∀ (l : List (Fin 15 × Fin 2)) (k : ℕ), Runs 15 k l →
    iprop(ctx A K ∗ ring A c k)
      ⊢ iprop((ring A c (k + l.length) -∗ Q ⟨⟩)
        -∗ wp frame (wpE (defs₀ (F := F)) 𝒱₀ c none) Set.univ (agSteps outM (sendA false) (recvA false) (sendA true) (recvA true) c l) Q)
  | [], k, _ => by
    unfold agSteps
    iintro ⟨-, H⟩ Hk
    rw [show (pure PUnit.unit : Prog (TpuEff nD τ sig (Elt F) Λ₀ .tc) PUnit) = .ret ⟨⟩ from rfl, wp_ret]
    imodintro
    iapply Hk; iexact H
  | p :: ps, k, ⟨h1, h2, h3⟩ => by
    have hp : p.1.val < 15 := p.1.isLt
    have hc : c.val < 16 := c.isLt
    unfold agSteps
    rw [wp_bind, h2, show k + (p :: ps).length = k + 1 + ps.length by rw [List.length_cons]; omega]
    iintro ⟨#Hctx, H⟩ Hk
    iapply (ag_step A K c (Fin.ext ((k0_dev3_eq c).trans rfl)) (Fin.ext ((k0_dev4_eq c).trans rfl)) (by omega) (by omega)
      ((k0_off5_eq c p.1).trans (off_eq _ _ _ (by show _ = (c.val + (32 - k % 16)) % 16; omega)))
      ((k0_off6_eq c p.1).trans (off_eq _ _ _ (by show _ = (c.val + k % 16) % 16; omega)))) $$ [H]
    · isplitr; · iexact Hctx
      iexact H
    iintro H
    iapply (ag_run c ps (k + 1) h3) $$ [H]
    · isplitr; · iexact Hctx
      iexact H
    iexact Hk

theorem rsList_runs : Runs 0 0 rsList := by simp [Runs, rsList, sl]
theorem agList_runs : Runs 15 15 agList := by simp [Runs, agList, sl]

end Cert.KernelIdeal.Ring

end
-- ==== Proof.KernelIdeal.Attn.lean ====
/-
  The local attention: what it leaves in the result buffer, as a function of the five arrays it reads.
-/
module

public import proofs.«01_k».proof.Proof.KernelIdeal.Step

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig ℕ (Elt F) ℕ UU ℕ

abbrev xM : Memref sig .tc .vmem S2048x1024 .f32 := Memref.whole cc0_stg0_0
abbrev wqM : Memref sig .tc .vmem S1024x1024 .f32 := Memref.whole cc0_stg1_0
abbrev kM : Memref sig .tc .vmem S8x2048x128 .f32 := Memref.whole cc0_stg2_0
abbrev vM : Memref sig .tc .vmem S8x2048x128 .f32 := Memref.whole cc0_stg3_0
abbrev woM : Memref sig .tc .vmem S1024x1024 .f32 := Memref.whole cc0_stg4_0

/-! ## The value -/

section Value

variable (fk : kM.view.ref.ty.Contents (Elt F)) (fv : vM.view.ref.ty.Contents (Elt F)) (fo : woM.view.ref.ty.Contents (Elt F))

/-- Row block 0, over all keys, head after head. -/
def allRows (q : FVec F S2048x1024 .f32) (bias : FVec F S512x2048 .f32) : List (Fin 8) → FVec F S512x1024 .f32 → FVec F S512x1024 .f32
  | [], acc => acc
  | h :: hs, acc => allRows q bias hs (headAll acc (qSlice q 0 h) bias ((kM.access (rectH h)).read (Elt F) fk)
      ((vM.access (rectH h)).read (Elt F) fv) ((woM.access (rectWo h)).read (Elt F) fo))

/-- A later row block, over its window and the first 128 keys, head after head. -/
def winRows {n : ℕ} (w : Window n) (r : Fin 4) (q : FVec F S2048x1024 .f32) (bw : FVec F ⟨2, ![512, n]⟩ .f32) (bg : FVec F S512x128 .f32) :
    List (Fin 8) → FVec F S512x1024 .f32 → FVec F S512x1024 .f32
  | [], acc => acc
  | h :: hs, acc => winRows w r q bw bg hs (headWin w.W acc (qSlice q r h) bw bg ((kM.access (w.rect h)).read (Elt F) fk)
      ((kM.access (rectG h)).read (Elt F) fk) ((vM.access (w.rect h)).read (Elt F) fv) ((vM.access (rectG h)).read (Elt F) fv)
      ((woM.access (rectWo h)).read (Elt F) fo))

/-- The four row blocks. -/
def rows (q : FVec F S2048x1024 .f32) : Fin 4 → FVec F S512x1024 .f32
  | 0 => allRows fk fv fo q (biasAll (F := F)) allHeads (zeroAcc (F := F))
  | 1 => winRows fk fv fo win1 1 q (k0_pay18 (F := F)) (k0_pay19 (F := F)) allHeads (zeroAcc (F := F))
  | 2 => winRows fk fv fo win2 2 q (k0_pay71 (F := F)) (k0_pay19 (F := F)) allHeads (zeroAcc (F := F))
  | 3 => winRows fk fv fo win3 3 q (k0_pay124 (F := F)) (k0_pay19 (F := F)) allHeads (zeroAcc (F := F))

end Value

/-- The queries. -/
def queries (fx : xM.view.ref.ty.Contents (Elt F)) (fwq : wqM.view.ref.ty.Contents (Elt F)) : FVec F S2048x1024 .f32 :=
  k0_pay1 ((xM.access (Rect.unit (s := S2048x1024) ![0, 0] S2048x1024.size inb_S2048x1024_S2048x1024_0_0)).read (Elt F) fx)
    ((wqM.access (Rect.unit (s := S1024x1024) ![0, 0] S1024x1024.size inb_S1024x1024_S1024x1024_0_0)).read (Elt F) fwq)

/-- A row block written into the result. -/
def putRow (g : outM.view.ref.ty.Contents (Elt F)) (r : Fin 4) (w : FVec F S512x1024 .f32) : outM.view.ref.ty.Contents (Elt F) :=
  (outM.access (rectRow r)).write (Elt F) g w Finset.univ

/-- The four row blocks, one after the other. -/
def putRows (g : outM.view.ref.ty.Contents (Elt F)) (w : Fin 4 → FVec F S512x1024 .f32) : outM.view.ref.ty.Contents (Elt F) :=
  putRow (putRow (putRow (putRow g 0 (w 0)) 1 (w 1)) 2 (w 2)) 3 (w 3)

theorem row_emb (r : Fin 4) (y : S512x1024.Idx) (a : Fin 2) :
    (((outM.access (rectRow r)).emb y : S2048x1024.Idx) a : ℕ) = (![512 * r.val, 0] : Fin 2 → ℕ) a + (y a : ℕ) := by
  show (((rectRow r).emb y : S2048x1024.Idx) a : ℕ) = _
  rw [Rect.emb_apply]
  show (![512 * r.val, 0] : Fin 2 → ℕ) a + 1 * (y a : ℕ) = _
  omega

theorem putRow_same (g : outM.view.ref.ty.Contents (Elt F)) (r : Fin 4) (w : FVec F S512x1024 .f32) (y : S512x1024.Idx) :
    putRow g r w ((outM.access (rectRow r)).emb y) = w y :=
  (outM.access (rectRow r)).write_emb_of_mem g w (Finset.mem_univ y)

theorem putRow_other (g : outM.view.ref.ty.Contents (Elt F)) (r r' : Fin 4) (w : FVec F S512x1024 .f32) (y : S512x1024.Idx) (h : r ≠ r') :
    putRow g r w ((outM.access (rectRow r')).emb y) = g ((outM.access (rectRow r')).emb y) := by
  refine (outM.access (rectRow r)).write_of_not_mem g w Finset.univ ?_
  rw [View.setOn, Finset.mem_map]
  rintro ⟨z, -, hz⟩
  have h0 := congrArg (fun i : S2048x1024.Idx => (i 0 : ℕ)) hz
  have e1 := row_emb r z 0
  have e2 := row_emb r' y 0
  have h1 : (z 0 : ℕ) < 512 := (z 0).isLt
  have h2 : (y 0 : ℕ) < 512 := (y 0).isLt
  simp only [Matrix.cons_val_zero] at e1 e2
  have h3 : ((outM.access (rectRow r)).emb z 0 : ℕ) = ((outM.access (rectRow r')).emb y 0 : ℕ) := h0
  have h4 : r.val ≠ r'.val := fun e => h (Fin.ext e)
  omega

theorem putRows_at (g : outM.view.ref.ty.Contents (Elt F)) (w : Fin 4 → FVec F S512x1024 .f32) (r : Fin 4) (y : S512x1024.Idx) :
    putRows g w ((outM.access (rectRow r)).emb y) = w r y := by
  unfold putRows
  fin_cases r
  · exact (putRow_other _ 3 0 _ y (by decide)).trans ((putRow_other _ 2 0 _ y (by decide)).trans ((putRow_other _ 1 0 _ y (by decide)).trans (putRow_same _ 0 _ y)))
  · exact (putRow_other _ 3 1 _ y (by decide)).trans ((putRow_other _ 2 1 _ y (by decide)).trans (putRow_same _ 1 _ y))
  · exact (putRow_other _ 3 2 _ y (by decide)).trans (putRow_same _ 2 _ y)
  · exact putRow_same _ 3 _ y

/-- Every element of the result lies in one of the row blocks. -/
theorem row_cover (i : S2048x1024.Idx) : ∃ (r : Fin 4) (y : S512x1024.Idx), (outM.access (rectRow r)).emb y = i := by
  have h0 : (i 0 : ℕ) < 2048 := (i 0).isLt
  have h1 : (i 1 : ℕ) < 1024 := (i 1).isLt
  refine ⟨⟨(i 0 : ℕ) / 512, by omega⟩, Fin.cons (α := fun a => S512x1024.Coord a) ⟨(i 0 : ℕ) % 512, Nat.mod_lt _ (by decide)⟩ (Fin.cons ⟨(i 1 : ℕ), h1⟩ finZeroElim), ?_⟩
  refine funext fun a => Fin.ext ?_
  rw [row_emb]
  fin_cases a
  · show 512 * ((i 0 : ℕ) / 512) + (i 0 : ℕ) % 512 = (i 0 : ℕ)
    omega
  · show 0 + (i 1 : ℕ) = (i 1 : ℕ)
    omega

theorem putRows_any (g g' : outM.view.ref.ty.Contents (Elt F)) (w : Fin 4 → FVec F S512x1024 .f32) : putRows g w = putRows g' w := by
  funext i
  obtain ⟨r, y, rfl⟩ := row_cover i
  rw [putRows_at, putRows_at]

/-- The local result. -/
def localOut (fx : xM.view.ref.ty.Contents (Elt F)) (fwq : wqM.view.ref.ty.Contents (Elt F)) (fk : kM.view.ref.ty.Contents (Elt F))
    (fv : vM.view.ref.ty.Contents (Elt F)) (fo : woM.view.ref.ty.Contents (Elt F)) : outM.view.ref.ty.Contents (Elt F) :=
  putRows fx (rows fk fv fo (queries fx fwq))

/-! ## The run -/

section Run

variable (c : Dev nD) (fk : Buf (Elt F) (kM.view.loc (c : Thread nD τ))) (fv : Buf (Elt F) (vM.view.loc (c : Thread nD τ)))
  (fo : Buf (Elt F) (woM.view.loc (c : Thread nD τ)))

/-- The keys, values and output projection, held whole. -/
def kvo : sProp 𝕄 :=
  iprop((kM.view.loc (c : Thread nD τ) ↦{fullShare} fk) ∗ (vM.view.loc (c : Thread nD τ) ↦{fullShare} fv) ∗ (woM.view.loc (c : Thread nD τ) ↦{fullShare} fo))

theorem headsAll_run (q : FVec F S2048x1024 .f32) (bias : FVec F S512x2048 .f32) (l : List (Fin 8)) (acc : FVec F S512x1024 .f32)
    {Q : FVec F S512x1024 .f32 → sProp 𝕄} :
    kvo c fk fv fo ⊢ iprop((kvo c fk fv fo -∗ Q (allRows fk fv fo q bias l acc))
      -∗ wp frame (wpE (defs₀ (F := F)) 𝒱₀ c none) Set.univ (headsAll kM vM woM q bias l acc) Q) := by
  induction l generalizing acc with
  | nil =>
    iintro H Hk
    iapply (Entails.of_eq (wp_ret _ _ _ acc Q).symm)
    imodintro
    simp only [allRows]
    iapply Hk $$ H
  | cons h hs ih =>
    unfold kvo at ih ⊢
    iintro ⟨Hk, Hv, Ho⟩ Hc
    iapply (wp_load_rect 𝒱₀ (c : Thread nD τ) none Set.univ (m := kM) (r := rectH h) (f := fk) (Finset.subset_univ _)) $$ Hk
    iintro Hk
    iapply (wp_load_rect 𝒱₀ (c : Thread nD τ) none Set.univ (m := vM) (r := rectH h) (f := fv) (Finset.subset_univ _)) $$ Hv
    iintro Hv
    iapply (wp_load_rect 𝒱₀ (c : Thread nD τ) none Set.univ (m := woM) (r := rectWo h) (f := fo) (Finset.subset_univ _)) $$ Ho
    iintro Ho
    iapply (ih _) $$ [Hk Hv Ho]
    · isplitl [Hk]; · iexact Hk
      isplitl [Hv] <;> iassumption
    iexact Hc

theorem headsWin_run {n : ℕ} (w : Window n) (r : Fin 4) (q : FVec F S2048x1024 .f32) (bw : FVec F ⟨2, ![512, n]⟩ .f32) (bg : FVec F S512x128 .f32)
    (l : List (Fin 8)) (acc : FVec F S512x1024 .f32) {Q : FVec F S512x1024 .f32 → sProp 𝕄} :
    kvo c fk fv fo ⊢ iprop((kvo c fk fv fo -∗ Q (winRows fk fv fo w r q bw bg l acc))
      -∗ wp frame (wpE (defs₀ (F := F)) 𝒱₀ c none) Set.univ (headsWin kM vM woM w r q bw bg l acc) Q) := by
  induction l generalizing acc with
  | nil =>
    iintro H Hk
    iapply (Entails.of_eq (wp_ret _ _ _ acc Q).symm)
    imodintro
    simp only [winRows]
    iapply Hk $$ H
  | cons h hs ih =>
    unfold kvo at ih ⊢
    iintro ⟨Hk, Hv, Ho⟩ Hc
    iapply (wp_load_rect 𝒱₀ (c : Thread nD τ) none Set.univ (m := kM) (r := w.rect h) (f := fk) (Finset.subset_univ _)) $$ Hk
    iintro Hk
    iapply (wp_load_rect 𝒱₀ (c : Thread nD τ) none Set.univ (m := kM) (r := rectG h) (f := fk) (Finset.subset_univ _)) $$ Hk
    iintro Hk
    iapply (wp_load_rect 𝒱₀ (c : Thread nD τ) none Set.univ (m := vM) (r := w.rect h) (f := fv) (Finset.subset_univ _)) $$ Hv
    iintro Hv
    iapply (wp_load_rect 𝒱₀ (c : Thread nD τ) none Set.univ (m := vM) (r := rectG h) (f := fv) (Finset.subset_univ _)) $$ Hv
    iintro Hv
    iapply (wp_load_rect 𝒱₀ (c : Thread nD τ) none Set.univ (m := woM) (r := rectWo h) (f := fo) (Finset.subset_univ _)) $$ Ho
    iintro Ho
    iapply (ih _) $$ [Hk Hv Ho]
    · isplitl [Hk]; · iexact Hk
      isplitl [Hv] <;> iassumption
    iexact Hc

theorem storeRow_run (g : Buf (Elt F) (outM.view.loc (c : Thread nD τ))) (r : Fin 4) (w : FVec F S512x1024 .f32) {Q : PUnit → sProp 𝕄} :
    iprop(outM.view.loc (c : Thread nD τ) ↦{fullShare} g) ⊢ iprop(((outM.view.loc (c : Thread nD τ) ↦{fullShare} putRow g r w) -∗ Q ⟨⟩)
      -∗ wp frame (wpE (defs₀ (F := F)) 𝒱₀ c none) Set.univ (storeRow outM r w) Q) := by
  iintro H Hk
  iapply (wp_load_rect 𝒱₀ (c : Thread nD τ) none Set.univ (m := outM) (r := rectRow r) (f := g) (Finset.subset_univ _)) $$ H
  iintro H
  iapply (wp_store 𝒱₀ (c : Thread nD τ) none Set.univ (m := outM) (r := rectRow r) (f := g) (S := Finset.univ) (Finset.subset_univ _)) $$ H
  iintro H
  rw [wp_ret]
  imodintro
  iapply Hk
  iexact H

theorem attention_run (fx : Buf (Elt F) (xM.view.loc (c : Thread nD τ))) (fwq : Buf (Elt F) (wqM.view.loc (c : Thread nD τ)))
    (g : Buf (Elt F) (outM.view.loc (c : Thread nD τ))) {Q : PUnit → sProp 𝕄} :
    iprop((xM.view.loc (c : Thread nD τ) ↦{fullShare} fx) ∗ (wqM.view.loc (c : Thread nD τ) ↦{fullShare} fwq) ∗ kvo c fk fv fo ∗ (outM.view.loc (c : Thread nD τ) ↦{fullShare} g))
      ⊢ iprop((((xM.view.loc (c : Thread nD τ) ↦{fullShare} fx) ∗ (wqM.view.loc (c : Thread nD τ) ↦{fullShare} fwq) ∗ kvo c fk fv fo
          ∗ (outM.view.loc (c : Thread nD τ) ↦{fullShare} localOut fx fwq fk fv fo)) -∗ Q ⟨⟩)
        -∗ wp frame (wpE (defs₀ (F := F)) 𝒱₀ c none) Set.univ (attention xM wqM kM vM woM outM) Q) := by
  unfold attention
  simp only [wp_bind]
  iintro ⟨Hx, Hq, H, Hg⟩ Hc
  iapply (wp_load_rect 𝒱₀ (c : Thread nD τ) none Set.univ (m := xM) (r := Rect.unit (s := S2048x1024) ![0, 0] S2048x1024.size inb_S2048x1024_S2048x1024_0_0) (f := fx) (Finset.subset_univ _)) $$ Hx
  iintro Hx
  rw [wp_ret]; imodintro
  iapply (wp_load_rect 𝒱₀ (c : Thread nD τ) none Set.univ (m := wqM) (r := Rect.unit (s := S1024x1024) ![0, 0] S1024x1024.size inb_S1024x1024_S1024x1024_0_0) (f := fwq) (Finset.subset_univ _)) $$ Hq
  iintro Hq
  rw [wp_ret]; imodintro
  iapply (headsAll_run c fk fv fo _ _ _ _) $$ H
  iintro H
  iapply (storeRow_run c g 0 _) $$ Hg
  iintro Hg
  iapply (headsWin_run c fk fv fo _ _ _ _ _ _ _) $$ H
  iintro H
  iapply (storeRow_run c _ 1 _) $$ Hg
  iintro Hg
  iapply (headsWin_run c fk fv fo _ _ _ _ _ _ _) $$ H
  iintro H
  iapply (storeRow_run c _ 2 _) $$ Hg
  iintro Hg
  iapply (headsWin_run c fk fv fo _ _ _ _ _ _ _) $$ H
  iintro H
  iapply (storeRow_run c _ 3 _) $$ Hg
  iintro Hg
  iapply Hc
  isplitl [Hx]; · iexact Hx
  isplitl [Hq]; · iexact Hq
  isplitl [H]; · iexact H
  unfold localOut
  rw [putRows_any fx g]
  iexact Hg

end Run

end Cert.KernelIdeal.Ring

end
-- ==== Proof.KernelIdeal.Tiles.lean ====
/-
  The result buffer as thirty-two blocks and the two receive buffers as two slots each: taken apart before the ring, put
  together after it. What the blocks hold at the end.
-/
module

public import proofs.«01_k».proof.Proof.KernelIdeal.Steps
public import Idealize.ShloMosaic.Lib.Ring

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

/-! ## Where a block lies -/

/-- The element of the result at place `y` of a block. -/
abbrev inTile (b : Bool) (a : Fin 16) (y : S128x512.Idx) : S2048x1024.Idx := (tileV b a).view.emb y

theorem tile_emb (b : Bool) (a : Fin 16) (y : S128x512.Idx) (x : Fin 2) :
    ((inTile b a y) x : ℕ) = (![128 * a.val, 512 * b.toNat] : Fin 2 → ℕ) x + (y x : ℕ) := by
  show (((Rect.unit (s := S2048x1024) ![128 * a.val, 512 * b.toNat] S128x512.size (inbTile b a)).emb y : S2048x1024.Idx) x : ℕ) = _
  rw [Rect.emb_apply]
  show (![128 * a.val, 512 * b.toNat] : Fin 2 → ℕ) x + 1 * (y x : ℕ) = _
  omega

theorem tile_emb0 (b : Bool) (a : Fin 16) (y : S128x512.Idx) : ((inTile b a y) 0 : ℕ) = 128 * a.val + (y 0 : ℕ) :=
  tile_emb b a y 0
theorem tile_emb1 (b : Bool) (a : Fin 16) (y : S128x512.Idx) : ((inTile b a y) 1 : ℕ) = 512 * b.toNat + (y 1 : ℕ) :=
  tile_emb b a y 1

/-- The half, the block and the place in the block of an element of the result. -/
def halfOf (i : S2048x1024.Idx) : Bool := decide (512 ≤ (i 1 : ℕ))
def blockOf (i : S2048x1024.Idx) : Fin 16 := ⟨(i 0 : ℕ) / 128, by have h : (i 0 : ℕ) < 2048 := (i 0).isLt; omega⟩
def placeOf (i : S2048x1024.Idx) : S128x512.Idx :=
  Fin.cons (α := fun a => S128x512.Coord a) ⟨(i 0 : ℕ) % 128, Nat.mod_lt _ (by decide)⟩ (Fin.cons ⟨(i 1 : ℕ) % 512, Nat.mod_lt _ (by decide)⟩ finZeroElim)

theorem halfOf_emb (b : Bool) (a : Fin 16) (y : S128x512.Idx) : halfOf (inTile b a y) = b := by
  unfold halfOf
  have h : (y 1 : ℕ) < 512 := (y 1).isLt
  rw [tile_emb1]
  cases b
  · exact decide_eq_false (by show ¬ 512 ≤ 512 * 0 + _; omega)
  · exact decide_eq_true (by show 512 ≤ 512 * 1 + _; omega)
theorem blockOf_emb (b : Bool) (a : Fin 16) (y : S128x512.Idx) : blockOf (inTile b a y) = a := by
  have h : (y 0 : ℕ) < 128 := (y 0).isLt
  refine Fin.ext ?_
  show ((inTile b a y) 0 : ℕ) / 128 = _
  rw [tile_emb0]; omega
theorem placeOf_emb (b : Bool) (a : Fin 16) (y : S128x512.Idx) : placeOf (inTile b a y) = y := by
  have h0 : (y 0 : ℕ) < 128 := (y 0).isLt
  have h1 : (y 1 : ℕ) < 512 := (y 1).isLt
  refine funext fun x => Fin.ext ?_
  fin_cases x
  · show ((inTile b a y) 0 : ℕ) % 128 = (y 0 : ℕ)
    rw [tile_emb0]; omega
  · show ((inTile b a y) 1 : ℕ) % 512 = (y 1 : ℕ)
    rw [tile_emb1]; cases b <;> simp only [Bool.toNat, cond] <;> omega
theorem emb_placeOf (i : S2048x1024.Idx) : inTile (halfOf i) (blockOf i) (placeOf i) = i := by
  have h1 : (i 1 : ℕ) < 1024 := (i 1).isLt
  refine funext fun x => Fin.ext ?_
  fin_cases x
  · refine (tile_emb0 _ _ _).trans ?_
    show 128 * ((i 0 : ℕ) / 128) + (i 0 : ℕ) % 128 = (i 0 : ℕ)
    omega
  · refine (tile_emb1 _ _ _).trans ?_
    show 512 * (halfOf i).toNat + (i 1 : ℕ) % 512 = (i 1 : ℕ)
    unfold halfOf
    by_cases h : 512 ≤ (i 1 : ℕ)
    · rw [decide_eq_true h]; show 512 * 1 + _ = _; omega
    · rw [decide_eq_false h]; show 512 * 0 + _ = _; omega

/-- The result whose blocks are `X`. -/
def putTiles (X : Bool → Fin 16 → Vec F S128x512 .f32) : outM.view.ref.ty.Contents (Elt F) := fun i => X (halfOf i) (blockOf i) (placeOf i)

theorem putTiles_emb (X : Bool → Fin 16 → Vec F S128x512 .f32) (b : Bool) (a : Fin 16) (y : S128x512.Idx) :
    putTiles X ((tileV b a).view.emb y) = X b a y := by
  show X (halfOf _) (blockOf _) (placeOf _) = _
  rw [halfOf_emb, blockOf_emb, placeOf_emb]

/-! ## The result in blocks -/

abbrev tileSet (c : Dev nD) (t : Bool × Fin 16) : Finset (Idx (outM.view.loc (c : Thread nD τ))) := (tileV t.1 t.2).view.set

theorem tile_disjoint (c : Dev nD) (t : Bool × Fin 16) (t' : Bool × Fin 16) (h : t ≠ t') : Disjoint (tileSet c t) (tileSet c t') := by
  rw [Finset.disjoint_left]
  intro i hi hi'
  obtain ⟨y, -, hy⟩ := Finset.mem_map.mp hi
  obtain ⟨y', -, hy'⟩ := Finset.mem_map.mp hi'
  have e : (tileV t.1 t.2).view.emb y = (tileV t'.1 t'.2).view.emb y' := hy.trans hy'.symm
  apply h
  refine Prod.ext ?_ ?_
  · rw [← halfOf_emb t.1 t.2 y, ← halfOf_emb t'.1 t'.2 y']; exact congrArg halfOf e
  · rw [← blockOf_emb t.1 t.2 y, ← blockOf_emb t'.1 t'.2 y']; exact congrArg blockOf e

theorem tile_cover (c : Dev nD) : Finset.univ.biUnion (tileSet c) = Finset.univ := by
  refine Finset.eq_univ_iff_forall.mpr fun i => Finset.mem_biUnion.mpr ⟨(halfOf i, blockOf i), Finset.mem_univ _, ?_⟩
  exact Finset.mem_map.mpr ⟨placeOf i, Finset.mem_univ _, emb_placeOf i⟩

theorem tiles_eq (c : Dev nD) (f : Buf (Elt F) (outM.view.loc (c : Thread nD τ))) :
    (outM.view.loc (c : Thread nD τ) ↦{fullShare} f : sProp 𝕄)
      = bigSep Finset.univ fun t : Bool × Fin 16 => (outM.view.loc (c : Thread nD τ) ↦[tileSet c t]{fullShare} f : sProp 𝕄) := by
  rw [← pointsTo_biUnion Finset.univ (tileSet c) (fun t _ t' _ h => tile_disjoint c t t' h), tile_cover]

theorem big_bool (Φ : Bool → sProp 𝕄) : bigSep Finset.univ Φ = iprop(Φ false ∗ Φ true) := by
  rw [show (Finset.univ : Finset Bool) = {false, true} by decide]; exact big_two (by decide) Φ

/-- The block that starts `j` steps ahead, as a permutation of the blocks. -/
def ahead (b : Bool) (c : Dev nD) : Fin 16 ≃ Fin 16 :=
  Equiv.ofBijective (fun j => chunk b c j.val) (Finite.injective_iff_bijective.mp fun _ _ h => chunk_inj b c h)

/-- The blocks of one half, in the order of the ring. -/
def half (b : Bool) (c : Dev nD) (X : Bool → Fin 16 → Vec F S128x512 .f32) : sProp 𝕄 :=
  bigSep Finset.univ fun j : Fin 16 => hold (tileV b (chunk b c j.val)) c (X b (chunk b c j.val))

theorem half_eq (b : Bool) (c : Dev nD) (X : Bool → Fin 16 → Vec F S128x512 .f32) :
    half b c X = bigSep Finset.univ fun a : Fin 16 => (hold (tileV b a) c (X b a) : sProp 𝕄) :=
  (bigSep_univ_equiv (ahead b c) fun a : Fin 16 => (hold (tileV b a) c (X b a) : sProp 𝕄)).symm

theorem tile_out (c : Dev nD) (b : Bool) (a : Fin 16) (f : Buf (Elt F) (outM.view.loc (c : Thread nD τ))) :
    (outM.view.loc (c : Thread nD τ) ↦[tileSet c (b, a)]{fullShare} f : sProp 𝕄) ⊢ hold (tileV b a) c ((tileV b a).view.read (Elt F) f) := by
  unfold hold
  iintro H
  iexists f
  isplitr
  · ipureintro; rfl
  · iexact H

theorem tile_in (c : Dev nD) (b : Bool) (a : Fin 16) (X : Bool → Fin 16 → Vec F S128x512 .f32) :
    (hold (tileV b a) c (X b a) : sProp 𝕄) ⊢ (outM.view.loc (c : Thread nD τ) ↦[tileSet c (b, a)]{fullShare} putTiles X : sProp 𝕄) := by
  unfold hold
  iintro ⟨%f, %hf, H⟩
  iapply (Entails.of_eq (show (ptV (tileV b a) c f : sProp 𝕄) = (outM.view.loc (c : Thread nD τ) ↦[tileSet c (b, a)]{fullShare} putTiles X) from ?_)) $$ H
  refine pointsTo_congr fun i hi => ?_
  obtain ⟨y, -, rfl⟩ := Finset.mem_map.mp hi
  exact (congrFun hf y).trans (putTiles_emb X b a y).symm

theorem take_apart (c : Dev nD) (f : Buf (Elt F) (outM.view.loc (c : Thread nD τ))) :
    (outM.view.loc (c : Thread nD τ) ↦{fullShare} f : sProp 𝕄)
      ⊢ iprop(half false c (fun b a => (tileV b a).view.read (Elt F) f) ∗ half true c (fun b a => (tileV b a).view.read (Elt F) f)) := by
  rw [half_eq, half_eq, tiles_eq, bigSep_univ_prod, big_bool]
  iintro ⟨H1, H2⟩
  isplitl [H1]
  · iapply (show _ ⊢ _ from bigSep_mono fun a _ => tile_out c false a f) $$ H1
  · iapply (show _ ⊢ _ from bigSep_mono fun a _ => tile_out c true a f) $$ H2

theorem put_together (c : Dev nD) (X : Bool → Fin 16 → Vec F S128x512 .f32) :
    iprop(half false c X ∗ half true c X) ⊢ (outM.view.loc (c : Thread nD τ) ↦{fullShare} putTiles X : sProp 𝕄) := by
  rw [half_eq, half_eq, tiles_eq, bigSep_univ_prod, big_bool]
  iintro ⟨H1, H2⟩
  isplitl [H1]
  · iapply (show _ ⊢ _ from bigSep_mono fun a _ => tile_in c false a X) $$ H1
  · iapply (show _ ⊢ _ from bigSep_mono fun a _ => tile_in c true a X) $$ H2

/-! ## The slots -/

/-- The rectangle of a slot. -/
abbrev slotR (s : Fin 2) : Rect S2x128x512 := Rect.unit (s := S2x128x512) ![s.val, 0, 0] S1x128x512.size (inbSlot s)

theorem slotR_emb (s : Fin 2) (y : S1x128x512.Idx) (x : Fin 3) :
    (((slotR s).emb y : S2x128x512.Idx) x : ℕ) = (![s.val, 0, 0] : Fin 3 → ℕ) x + (y x : ℕ) := by
  rw [Rect.emb_apply]
  show (![s.val, 0, 0] : Fin 3 → ℕ) x + 1 * (y x : ℕ) = _
  omega

theorem slot_mem (b : Bool) (s : Fin 2) (i : S2x128x512.Idx) : (commM b).view.emb i ∈ (slotV (commM b) s).view.set ↔ (i 0 : ℕ) = s.val := by
  rw [← slot_set]
  constructor
  · intro h
    obtain ⟨y, -, hy⟩ := Finset.mem_map.mp h
    have e : (slotR s).emb y = i := (commM b).view.emb.injective hy
    have h0 : (y 0 : ℕ) < 1 := (y 0).isLt
    rw [← e]
    refine (slotR_emb s y 0).trans ?_
    show s.val + (y 0 : ℕ) = s.val
    omega
  · intro h
    refine Finset.mem_map.mpr ⟨(Fin.cons (α := fun a => S1x128x512.Coord a) (⟨0, Nat.zero_lt_one⟩ : Fin 1) (Fin.cons (i 1) (Fin.cons (i 2) finZeroElim)) : S1x128x512.Idx), Finset.mem_univ _, ?_⟩
    refine congrArg (commM b).view.emb ?_
    refine funext fun x => Fin.ext ((slotR_emb s _ x).trans ?_)
    fin_cases x
    · show s.val + 0 = (i 0 : ℕ); omega
    · show 0 + (i 1 : ℕ) = (i 1 : ℕ); omega
    · show 0 + (i 2 : ℕ) = (i 2 : ℕ); omega

theorem comm_onto (b : Bool) (i : (commM b).view.ref.ty.shape.Idx) : ∃ z : S2x128x512.Idx, (commM b).view.emb z = i := by
  cases b <;> exact ⟨i, rfl⟩

abbrev slotSet (b : Bool) (c : Dev nD) (s : Fin 2) : Finset (Idx ((commM b).view.loc (c : Thread nD τ))) := (slotV (commM b) s).view.set

theorem slot_disjoint (b : Bool) (c : Dev nD) (s s' : Fin 2) (h : s ≠ s') : Disjoint (slotSet b c s) (slotSet b c s') := by
  rw [Finset.disjoint_left]
  intro i hi hi'
  obtain ⟨z, rfl⟩ := comm_onto b i
  exact h (Fin.ext (((slot_mem b s z).mp hi).symm.trans ((slot_mem b s' z).mp hi')))

theorem slot_cover (b : Bool) (c : Dev nD) : Finset.univ.biUnion (slotSet b c) = Finset.univ := by
  refine Finset.eq_univ_iff_forall.mpr fun i => ?_
  obtain ⟨z, rfl⟩ := comm_onto b i
  exact Finset.mem_biUnion.mpr ⟨z 0, Finset.mem_univ _, (slot_mem b (z 0) z).mpr rfl⟩

theorem big_slots (Φ : Fin 2 → sProp 𝕄) : bigSep Finset.univ Φ = iprop(Φ 0 ∗ Φ 1) := by
  rw [show (Finset.univ : Finset (Fin 2)) = {0, 1} by decide]; exact big_two (by decide) Φ

/-- A receive buffer at any contents. -/
def commAny (b : Bool) (c : Dev nD) : sProp 𝕄 := iprop(∃ f : Buf (Elt F) ((commM b).view.loc (c : Thread nD τ)), (commM b).view.loc (c : Thread nD τ) ↦{fullShare} f)

theorem comm_apart (b : Bool) (c : Dev nD) : commAny (F := F) b c ⊢ iprop(anyOf (F := F) (slotV (commM b) 0) c ∗ anyOf (F := F) (slotV (commM b) 1) c) := by
  unfold commAny anyOf
  iintro ⟨%f, H⟩
  ihave H := (Entails.of_eq ((Idealize.ShloMosaic.Ring.pointsTo_blocks (slotSet b c) (slot_disjoint b c) (slot_cover b c) f).trans (big_slots _))) $$ H
  icases H with ⟨H0, H1⟩
  isplitl [H0]
  · iexists f; iexact H0
  · iexists f; iexact H1

theorem comm_together (b : Bool) (c : Dev nD) : iprop(anyOf (F := F) (slotV (commM b) 0) c ∗ anyOf (F := F) (slotV (commM b) 1) c) ⊢ commAny (F := F) b c := by
  unfold commAny anyOf
  iintro ⟨⟨%f, H0⟩, ⟨%g, H1⟩⟩
  iapply (Idealize.ShloMosaic.Ring.pointsTo_blocks_join_exists (slotSet b c) (slot_disjoint b c) (slot_cover b c) f)
  iapply (Entails.of_eq (big_slots _).symm)
  isplitl [H0]
  · iexists f; iexact H0
  · iexists g; iexact H1

/-! ## What the blocks hold at the end -/

variable (A : Dev nD → outM.view.ref.ty.Contents (Elt F))

/-- The device at which a block of one half is complete after the first fifteen steps. -/
def home (b : Bool) (a : Fin 16) : Dev nD := match b with
  | false => ⟨(a.val + 15) % 16, Nat.mod_lt _ (by decide)⟩
  | true => ⟨(a.val + 1) % 16, Nat.mod_lt _ (by decide)⟩

/-- The complete block. -/
def total (b : Bool) (a : Fin 16) : Vec F S128x512 .f32 := sent A b 15 (home b a)

/-- The result on every device. -/
def finalOut : outM.view.ref.ty.Contents (Elt F) := putTiles (total A)

theorem home_chunk (b : Bool) (c : Dev nD) : home b (chunk b c 15) = c := by
  have h : c.val < 16 := c.isLt
  cases b <;> refine Fin.ext ?_
  · show ((c.val + (32 - 15 % 16)) % 16 + 15) % 16 = c.val
    omega
  · show ((c.val + 15 % 16) % 16 + 1) % 16 = c.val
    omega

theorem sent_total (b : Bool) (i : ℕ) : ∀ c : Dev nD, sent A b (15 + i) c = total A b (chunk b c (15 + i)) := by
  induction i with
  | zero => intro c; unfold total; rw [Nat.add_zero, home_chunk]
  | succ i ih =>
    intro c
    have e : chunk b (nbr (!b) c) (15 + i) = chunk b c (15 + (i + 1)) := by
      rw [← chunk_nbr b (nbr (!b) c) (15 + i), nbr_nbr]; rfl
    rw [← e, ← ih]
    show (if 15 + i < 15 then _ else sent A b (15 + i) (nbr (!b) c)) = _
    rw [if_neg (by omega)]

theorem cont_total (b : Bool) (c : Dev nD) (j : Fin 16) : cont A b c 30 j.val = total A b (chunk b c j.val) := by
  have hj : j.val < 16 := j.isLt
  unfold cont
  by_cases h : j.val + 16 ≤ 30
  · rw [if_pos h, show 16 + j.val = 15 + (j.val + 1) by omega, sent_total]
    exact congrArg _ (chunk_congr b c (by omega))
  · rw [if_neg h, if_pos (by omega), show j.val = 15 + 0 by omega, sent_total]

end Cert.KernelIdeal.Ring

end
-- ==== Proof.KernelIdeal.Body.lean ====
/-
  The kernel's body on one device: the entry handshake, the local attention, the thirty steps of the ring, and every
  counter back at zero.
-/
module

public import proofs.«01_k».proof.Proof.KernelIdeal.RingRun
public import proofs.«01_k».proof.Proof.KernelIdeal.Attn
public import proofs.«01_k».proof.Proof.KernelIdeal.Tiles

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable (A : Dev nD → outM.view.ref.ty.Contents (Elt F))

variable (K : GSem nD τ sig → ℕ)

/-! ## The start of the ring -/

theorem start_tile (b : Bool) (c : Dev nD) (j : Fin 16) : (hold (tileV b (chunk b c j.val)) c (blk A b c (chunk b c j.val)) : sProp 𝕄) = tileAt A b c 0 j := by
  unfold tileAt
  rw [if_neg (by omega)]
  unfold cont
  rw [if_neg (by omega)]
  by_cases h : j.val ≤ 0
  · rw [if_pos h, show j.val = 0 by omega]; rfl
  · rw [if_neg h]

theorem half_start (b : Bool) (c : Dev nD) : half b c (fun b a => (tileV b a).view.read (Elt F) (A c)) = bigSep Finset.univ (tileAt A b c 0) :=
  bigSep_congr fun j _ => start_tile A b c j

theorem end_tile (b : Bool) (c : Dev nD) (j : Fin 16) : (tileAt A b c 30 j : sProp 𝕄) = hold (tileV b (chunk b c j.val)) c (total A b (chunk b c j.val)) := by
  unfold tileAt
  rw [if_neg (by omega), cont_total]

theorem start_slots (b : Bool) (c : Dev nD) : (slots b c 0 : sProp 𝕄) = iprop(anyOf (F := F) (slotV (commM b) 1) c ∗ emp) := by
  unfold slots; rw [if_pos (by omega)]; rfl
theorem end_slots (b : Bool) (c : Dev nD) : (slots b c 30 : sProp 𝕄) = iprop(anyOf (F := F) (slotV (commM b) 1) c ∗ anyOf (F := F) (slotV (commM b) 0) c) := by
  unfold slots; rw [if_neg (by omega)]; rfl

theorem credit_zero (b : Bool) (c : Dev nD) : (credit b c 0 : sProp 𝕄) = iprop(anyOf (F := F) (slotV (commM b) 0) c ∗ reached ER (recvCell b c 0) 0) := by
  unfold credit; rw [if_pos (by omega), dstV_rs b c (by omega)]; rfl
theorem credit_end (b : Bool) (c : Dev nD) : (credit b c 30 : sProp 𝕄) = iprop(emp) := by
  unfold credit; rw [if_neg (by omega)]

theorem dir_start (b : Bool) (c : Dev nD) :
    iprop(half b c (fun b a => (tileV b a).view.read (Elt F) (A c)) ∗ anyOf (F := F) (slotV (commM b) 1) c ∗ credit (F := F) b (nbr b c) 0 ∗ ghost (F := F) b c 0)
      ⊢ dir A b c 0 := by
  unfold dir own
  rw [start_slots, half_start]
  iintro ⟨Hh, Hs, HF, Hg⟩
  isplitl [Hh Hs]
  · isplitl [Hh]
    · iexact Hh
    · isplitl [Hs]
      · iexact Hs
      · iempintro
  isplitl [HF] <;> iassumption

theorem dir_end (b : Bool) (c : Dev nD) :
    dir A b c 30 ⊢ iprop(half b c (total A) ∗ anyOf (F := F) (slotV (commM b) 0) c ∗ anyOf (F := F) (slotV (commM b) 1) c ∗ pos (F := F) b c 30 ∗ pos (F := F) b c 31) := by
  unfold dir own half ghost
  rw [end_slots]
  iintro ⟨⟨Hh, Hs1, Hs0⟩, -, Hp, Hp', -⟩
  isplitl [Hh]
  · iapply (Entails.of_eq (bigSep_congr (s := Finset.univ) fun j _ => end_tile A b c j)) $$ Hh
  isplitl [Hs0]; · iexact Hs0
  isplitl [Hs1]; · iexact Hs1
  isplitl [Hp] <;> iassumption

/-! ## Closing the counters -/

theorem close_bar (c : Dev nD) : iprop(ctx A K ∗ atPos ER (barCell c) 1 ∅ 0) ⊢ (|={Set.univ}=> semVal (barCell c) 0 : sProp 𝕄) := by
  iintro ⟨#Hctx, H⟩
  iapply (Rounds.cell_close ER (rd A) (Set.mem_univ (K (barCell c))) id (fun r h => duties_bar_later A c r h))
  isplitr
  · iapply (ctx_bar A K c); iexact Hctx
  · iexact H

theorem close_pair (b : Bool) (c : Dev nD) (k : ℕ) (h : 15 ≤ k / 2) :
    iprop(ctx A K ∗ pos (F := F) b c k) ⊢ (|={Set.univ}=> (semVal (sendCell b c (sl k)) 0 ∗ semVal (recvCell b c (sl k)) 0) : sProp 𝕄) := by
  unfold pos
  iintro ⟨#Hctx, Hs, -, Hr, -⟩
  imod (Rounds.cell_close ER (rd A) (Set.mem_univ (K (sendCell b c (sl k)))) id (R := k / 2)
    (fun r hr => duties_dma_later A c (sendS b (sl k)) r (by omega))) $$ [Hs] with Hs
  · isplitr
    · iapply (ctx_send A K b c (sl k)); iexact Hctx
    · iexact Hs
  imod (Rounds.cell_close ER (rd A) (Set.mem_univ (K (recvCell b c (sl k)))) id (R := k / 2)
    (fun r hr => duties_dma_later A c (recvS b (sl k)) r (by omega))) $$ [Hr] with Hr
  · isplitr
    · iapply (ctx_recv A K b c (sl k)); iexact Hctx
    · iexact Hr
  imodintro
  isplitl [Hs] <;> iassumption

/-- The four transfer counters of a direction at zero. -/
def quiet (b : Bool) (c : Dev nD) : sProp 𝕄 :=
  iprop((semVal (sendCell b c 0) 0 ∗ semVal (recvCell b c 0) 0) ∗ (semVal (sendCell b c 1) 0 ∗ semVal (recvCell b c 1) 0))

theorem close_dir (b : Bool) (c : Dev nD) :
    iprop(ctx A K ∗ pos (F := F) b c 30 ∗ pos (F := F) b c 31) ⊢ (|={Set.univ}=> quiet (F := F) b c : sProp 𝕄) := by
  iintro ⟨#Hctx, H, H'⟩
  imod (close_pair A K b c 30 (by omega)) $$ [H] with H
  · isplitr
    · iexact Hctx
    · iexact H
  imod (close_pair A K b c 31 (by omega)) $$ [H'] with H'
  · isplitr
    · iexact Hctx
    · iexact H'
  imodintro
  unfold quiet
  isplitl [H]
  · iexact H
  · iexact H'

/-! ## The body -/

/-- What a device needs for the entry handshake. -/
def shake (c : Dev nD) : sProp 𝕄 :=
  iprop(atPos ER (barCell c) 0 ∅ 0 ∗ cred (tallyAt (barCell c) 0 2)
    ∗ dutyTok ER (barCell (nbr true c)) 0 false ∗ reached ER (barCell (nbr true c)) 0
    ∗ dutyTok ER (barCell (nbr false c)) 0 true ∗ reached ER (barCell (nbr false c)) 0)

variable (c : Dev nD) (fx : Buf (Elt F) (xM.view.loc (c : Thread nD τ))) (fwq : Buf (Elt F) (wqM.view.loc (c : Thread nD τ)))
  (fk : Buf (Elt F) (kM.view.loc (c : Thread nD τ))) (fv : Buf (Elt F) (vM.view.loc (c : Thread nD τ))) (fo : Buf (Elt F) (woM.view.loc (c : Thread nD τ)))

/-- The inputs' buffers. -/
def ins : sProp 𝕄 :=
  iprop((xM.view.loc (c : Thread nD τ) ↦{fullShare} fx) ∗ (wqM.view.loc (c : Thread nD τ) ↦{fullShare} fwq) ∗ kvo c fk fv fo)

theorem ghost_reached (b : Bool) : ghost (F := F) b c 0 ⊢ iprop(reached ER (recvCell b c 0) 0 ∗ ghost (F := F) b c 0) := by
  unfold ghost pos
  iintro ⟨⟨H1, H2, H3, #H⟩, H4, H5⟩
  isplitr
  · iexact H
  isplitl [H1 H2 H3]
  · isplitl [H1]; · iexact H1
    isplitl [H2]; · iexact H2
    isplitl [H3]
    · iexact H3
    · iexact H
  isplitl [H4] <;> iassumption

theorem shake_run {Q : PUnit → sProp 𝕄} (p : Prog (TpuEff nD τ sig (Elt F) Λ₀ .tc) PUnit) (W : Waits sig ℕ) :
    iprop(ctx A K ∗ shake (F := F) c ∗ credit (F := F) false c 0 ∗ credit (F := F) true c 0 ∗ owes (c : Thread nD τ) (O₀ c) W)
      ⊢ iprop(((atPos ER (barCell c) 1 ∅ 0 ∗ credit (F := F) false (nbr false c) 0 ∗ credit (F := F) true (nbr true c) 0
            ∗ ∃ W, owes (c : Thread nD τ) (owedR false c 0 + owedR true c 0) W) -∗ wp frame (wpE (defs₀ (F := F)) 𝒱₀ c none) Set.univ p Q)
        -∗ wp frame (wpE (defs₀ (F := F)) 𝒱₀ c none) Set.univ
          (.op (.semSignal (nbr true c : Thread nD τ) barS.sem 1) fun _ => .op (.semSignal (nbr false c : Thread nD τ) barS.sem 1) fun _ =>
            .op (.semWait barS.sem 2) fun _ => p) Q) := by
  unfold shake
  iintro ⟨#Hctx, ⟨Hat, Hc, Ht, #Hr, Ht', #Hr'⟩, H0, H1, HO⟩ Hk
  iapply (Rounds.wp_signal 𝒱₀ ER (rd A) (c : Thread nD τ) none (dst := (nbr true c : Thread nD τ)) (sem := barS.sem) (r := 0) (d := false) (κ := K (barCell (nbr true c)))
      (by rw [duties_bar]; exact Finset.mem_univ _) (amount_bar A (nbr true c) 0 false) 0
      (owedR false c 0 + owedR true c 0 + tallyAt (barCell (nbr false c)) 0 1) rfl) $$ [HO Ht H0]
  · isplitr; · iapply (ctx_bar A K (nbr true c)); iexact Hctx
    isplitl [HO]; · iexact HO
    isplitl [Ht]; · iexact Ht
    isplitl [H0]
    · rw [payload_bar, show nbr false (nbr true c) = c from nbr_nbr false c]; iexact H0
    · iexact Hr
  iintro HO
  iapply (Rounds.wp_signal 𝒱₀ ER (rd A) (c : Thread nD τ) none (dst := (nbr false c : Thread nD τ)) (sem := barS.sem) (r := 0) (d := true) (κ := K (barCell (nbr false c)))
      (by rw [duties_bar]; exact Finset.mem_univ _) (amount_bar A (nbr false c) 0 true) 0
      (owedR false c 0 + owedR true c 0) rfl) $$ [HO Ht' H1]
  · isplitr; · iapply (ctx_bar A K (nbr false c)); iexact Hctx
    isplitl [HO]; · iexact HO
    isplitl [Ht']; · iexact Ht'
    isplitl [H1]
    · rw [payload_bar, show nbr true (nbr false c) = c from nbr_nbr true c]; iexact H1
    · iexact Hr'
  iintro HO
  iapply (Rounds.wp_wait_rest_token 𝒱₀ ER (rd A) (c : Thread nD τ) none (κ := K (barCell c))
      (wpE_semWait_eq 𝒱₀ (c : Thread nD τ) none Set.univ) (Set.mem_univ _) 0 (O := owedR false c 0 + owedR true c 0) (W := W) (R := 0) (m := 0) (T := ∅)
      ((Nat.zero_add _).trans (expect_bar A c).symm)) $$ [Hc HO Hat]
  · isplitr; · iapply (ctx_bar A K c); iexact Hctx
    isplitl [Hc]; · iexact Hc
    isplitl [HO]; · iexact HO
    isplitr
    · iapply (ctx_wait A K c (.reg barS.sem) 0 0 0 (by decide) (by show 1 < 2; decide) (by show 1 < 2; decide)); iexact Hctx
    iexact Hat
  iintro ⟨HO, Hat, -, Hpay⟩
  ihave Hp := (Entails.of_eq (rest_bar A c)) $$ Hpay
  icases Hp with ⟨H0, H1⟩
  iapply Hk
  isplitl [Hat]; · iexact Hat
  isplitl [H0]; · iexact H0
  isplitl [H1]; · iexact H1
  iexists _
  iexact HO

theorem left_dev (c : Dev nD) : (⟨k0_dev1 c, k0_dev1_lt c⟩ : Dev nD) = nbr true c := Fin.ext ((k0_dev1_eq c).trans rfl)
theorem right_dev (c : Dev nD) : (⟨k0_dev2 c, k0_dev2_lt c⟩ : Dev nD) = nbr false c := Fin.ext ((k0_dev2_eq c).trans rfl)

/-- The body after the handshake. -/
def rest (c : Dev nD) : Prog (TpuEff nD τ sig (Elt F) Λ₀ .tc) PUnit := do
  attention xM wqM kM vM woM outM
  rsSteps outM (commM false) (commM true) (sendA false) (recvA false) (sendA true) (recvA true) c rsList
  agSteps outM (sendA false) (recvA false) (sendA true) (recvA true) c agList

theorem nbody_eq : (nbody xM wqM kM vM woM outM (commM false) (commM true) (sendA false) (recvA false) (sendA true) (recvA true) : Prog (TpuEff nD τ sig (Elt F) Λ₀ .tc) PUnit)
    = .op .deviceId fun d : Dev nD => .op (.semSignal ((⟨k0_dev1 d, k0_dev1_lt d⟩ : Dev nD) : Thread nD τ) barS.sem 1) fun _ =>
      .op (.semSignal ((⟨k0_dev2 d, k0_dev2_lt d⟩ : Dev nD) : Thread nD τ) barS.sem 1) fun _ => .op (.semWait barS.sem 2) fun _ => rest d := rfl

theorem body_run (hA : A c = localOut fx fwq fk fv fo) {g : Buf (Elt F) (outM.view.loc (c : Thread nD τ))} {Q : PUnit → sProp 𝕄} (W : Waits sig ℕ) :
    iprop(ctx A K ∗ shake (F := F) c ∗ ghost (F := F) false c 0 ∗ ghost (F := F) true c 0 ∗ ins c fx fwq fk fv fo
        ∗ (outM.view.loc (c : Thread nD τ) ↦{fullShare} g) ∗ commAny (F := F) false c ∗ commAny (F := F) true c ∗ owes (c : Thread nD τ) (O₀ c) W)
      ⊢ iprop(((semVal (barCell c) 0 ∗ quiet (F := F) false c ∗ quiet (F := F) true c ∗ ins c fx fwq fk fv fo
          ∗ (outM.view.loc (c : Thread nD τ) ↦{fullShare} finalOut A) ∗ commAny (F := F) false c ∗ commAny (F := F) true c
          ∗ ∃ W, owes (c : Thread nD τ) (0 : CellTallies nD τ sig ℕ) W) -∗ Q ⟨⟩)
        -∗ wp frame (wpE (defs₀ (F := F)) 𝒱₀ c none) Set.univ
          (nbody xM wqM kM vM woM outM (commM false) (commM true) (sendA false) (recvA false) (sendA true) (recvA true)) Q) := by
  rw [nbody_eq]
  iintro ⟨#Hctx, Hsh, Hg0, Hg1, Hin, Hout, Hc0, Hc1, HO⟩ Hk
  iapply (wp_fupd frame _ _ _ Q)
  rw [wp_deviceId, left_dev, right_dev]
  ihave Hg0 := (ghost_reached c false) $$ Hg0
  icases Hg0 with ⟨#Hr0, Hg0⟩
  ihave Hg1 := (ghost_reached c true) $$ Hg1
  icases Hg1 with ⟨#Hr1, Hg1⟩
  ihave Hc0 := (comm_apart false c) $$ Hc0
  icases Hc0 with ⟨Hs00, Hs01⟩
  ihave Hc1 := (comm_apart true c) $$ Hc1
  icases Hc1 with ⟨Hs10, Hs11⟩
  iapply (shake_run A K c _ W) $$ [Hsh Hs00 Hs10 HO]
  · isplitr; · iexact Hctx
    isplitl [Hsh]; · iexact Hsh
    isplitl [Hs00]
    · rw [credit_zero]
      isplitl [Hs00]
      · iexact Hs00
      · iexact Hr0
    isplitl [Hs10]
    · rw [credit_zero]
      isplitl [Hs10]
      · iexact Hs10
      · iexact Hr1
    iexact HO
  iintro ⟨Hat, HF0, HF1, ⟨%W', HO⟩⟩
  unfold ins rest
  simp only [wp_bind]
  icases Hin with ⟨Hx, Hq, Hkvo⟩
  iapply (attention_run c fk fv fo fx fwq g) $$ [Hx Hq Hkvo Hout]
  · isplitl [Hx]; · iexact Hx
    isplitl [Hq]; · iexact Hq
    isplitl [Hkvo] <;> iassumption
  iintro ⟨Hx, Hq, Hkvo, Hout⟩
  rw [← hA]
  ihave Hout := (take_apart c (A c)) $$ Hout
  icases Hout with ⟨Hh0, Hh1⟩
  iapply (rs_run A K c rsList 0 rsList_runs) $$ [Hh0 Hh1 HF0 HF1 Hg0 Hg1 Hs01 Hs11 HO]
  · isplitr; · iexact Hctx
    unfold ring
    isplitl [Hh0 HF0 Hg0 Hs01]
    · iapply (dir_start A false c)
      isplitl [Hh0]; · iexact Hh0
      isplitl [Hs01]; · iexact Hs01
      isplitl [HF0] <;> iassumption
    isplitl [Hh1 HF1 Hg1 Hs11]
    · iapply (dir_start A true c)
      isplitl [Hh1]; · iexact Hh1
      isplitl [Hs11]; · iexact Hs11
      isplitl [HF1] <;> iassumption
    iexists W'; iexact HO
  iintro H
  iapply (ag_run A K c agList 15 agList_runs) $$ [H]
  · isplitr; · iexact Hctx
    iexact H
  iintro H
  ihave H := (Entails.of_eq (show (ring A c (15 + agList.length) : sProp 𝕄) = ring A c 30 from rfl)) $$ H
  unfold ring
  icases H with ⟨Hd0, Hd1, ⟨%W'', HO⟩⟩
  ihave Hd0 := (dir_end A false c) $$ Hd0
  icases Hd0 with ⟨Hh0, Hs00, Hs01, Hp0, Hp0'⟩
  ihave Hd1 := (dir_end A true c) $$ Hd1
  icases Hd1 with ⟨Hh1, Hs10, Hs11, Hp1, Hp1'⟩
  imod (close_dir A K false c) $$ [Hp0 Hp0'] with Hz0
  · isplitr; · iexact Hctx
    isplitl [Hp0] <;> iassumption
  imod (close_dir A K true c) $$ [Hp1 Hp1'] with Hz1
  · isplitr; · iexact Hctx
    isplitl [Hp1] <;> iassumption
  imod (close_bar A K c) $$ [Hat] with Hz
  · isplitr; · iexact Hctx
    iexact Hat
  imodintro
  iapply Hk
  isplitl [Hz]; · iexact Hz
  isplitl [Hz0]; · iexact Hz0
  isplitl [Hz1]; · iexact Hz1
  isplitl [Hx Hq Hkvo]
  · isplitl [Hx]; · iexact Hx
    isplitl [Hq] <;> iassumption
  isplitl [Hh0 Hh1]
  · iapply (put_together c (total A))
    isplitl [Hh0] <;> iassumption
  isplitl [Hs00 Hs01]
  · iapply (comm_together false c)
    isplitl [Hs00] <;> iassumption
  isplitl [Hs10 Hs11]
  · iapply (comm_together true c)
    isplitl [Hs10] <;> iassumption
  iexists W''
  rw [owedR_end, owedR_end, add_zero]
  iexact HO

end Cert.KernelIdeal.Ring

end
-- ==== Proof.KernelIdeal.Fund.lean ====
/-
  What the launch makes for the ring: every cell's invariant, the barrier positions, the rights to open the transfer
  cells, the duties' tokens and the launch credit, each dealt to the device that uses it.
-/
module

public import proofs.«01_k».proof.Proof.KernelIdeal.Body

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig ℕ (Elt F) ℕ UU ℕ

variable (A : Dev nD → outM.view.ref.ty.Contents (Elt F))

/-! ## The credit each device waits with -/

theorem owedR_zero (b : Bool) (c : Dev nD) :
    owedR b c 0 = ∑ i ∈ Finset.Ico 0 30, (tallyAt ((nbr b c : Thread nD τ), .dma (recvS b (sl i))) i N : CellTallies nD τ sig ℕ) := rfl

theorem creds_ring (b : Bool) (c : Dev nD) :
    (Pipeline.launchCred (fun d => owedR b d 0) c : sProp 𝕄) ⊢ bigSep (Finset.Ico 0 30) fun i => cred (tallyAt (recvCell b c (sl i)) i N) := by
  simp only [owedR_zero]
  rw [Pipeline.launchCred_sum (Finset.Ico 0 30) (fun i d => (tallyAt ((nbr b d : Thread nD τ), .dma (recvS b (sl i))) i N : CellTallies nD τ sig ℕ)) c]
  exact bigSep_mono fun i _ => Pipeline.launchCred_tallyAt (.dma (recvS b (sl i))) (nbr b) (nbr (!b)) (nbr_nbr b) (nbr_nbr' b) i N c

theorem creds_bar (b : Bool) (c : Dev nD) :
    (Pipeline.launchCred (fun d => (tallyAt (barCell (nbr b d)) 0 1 : CellTallies nD τ sig ℕ)) c : sProp 𝕄) ⊢ cred (tallyAt (barCell c) 0 1) :=
  Pipeline.launchCred_tallyAt (.reg barS.sem) (nbr b) (nbr (!b)) (nbr_nbr b) (nbr_nbr' b) 0 1 c

/-- The credit of a direction's landings. -/
def landings (b : Bool) (c : Dev nD) : sProp 𝕄 := bigSep (Finset.Ico 0 30) fun i => cred (tallyAt (recvCell b c (sl i)) i N)

theorem creds (c : Dev nD) : (Pipeline.launchCred O₀ c : sProp 𝕄)
    ⊢ iprop(landings (F := F) false c ∗ landings (F := F) true c ∗ cred (tallyAt (barCell c) 0 2)) := by
  show (Pipeline.launchCred (fun d => owedR false d 0 + owedR true d 0 + tallyAt (barCell (nbr false d)) 0 1 + tallyAt (barCell (nbr true d)) 0 1) c : sProp 𝕄) ⊢ _
  rw [Pipeline.launchCred_add, Pipeline.launchCred_add, Pipeline.launchCred_add, show (2 : ℕ) = 1 + 1 from rfl, ← tallyAt_add]
  unfold landings
  iintro ⟨⟨⟨H0, H1⟩, Hb⟩, Hb'⟩
  isplitl [H0]; · iapply (creds_ring false c) $$ H0
  isplitl [H1]; · iapply (creds_ring true c) $$ H1
  iapply (cred_add _ _).2
  isplitl [Hb]
  · iapply (creds_bar false c) $$ Hb
  · iapply (creds_bar true c) $$ Hb'

/-! ## The cells and the tokens -/

def barEmb : Dev nD ↪ GSem nD τ sig := ⟨fun c => barCell c, fun _ _ h => congrArg (fun g : GSem nD τ sig => g.1.1) h⟩
theorem sendS_inj : Function.Injective (fun p : Bool × Fin 2 => sendS p.1 p.2) := by decide
theorem recvS_inj : Function.Injective (fun p : Bool × Fin 2 => recvS p.1 p.2) := by decide
theorem send_ne_recv : ∀ p q : Bool × Fin 2, sendS p.1 p.2 ≠ recvS q.1 q.2 := by decide
def sendEmb : Dev nD × Bool × Fin 2 ↪ GSem nD τ sig := ⟨fun p => sendCell p.2.1 p.1 p.2.2, fun _ _ h =>
  Prod.ext (congrArg (fun g : GSem nD τ sig => g.1.1) h) (sendS_inj (SemLoc.dma.inj (congrArg Prod.snd h)))⟩
def recvEmb : Dev nD × Bool × Fin 2 ↪ GSem nD τ sig := ⟨fun p => recvCell p.2.1 p.1 p.2.2, fun _ _ h =>
  Prod.ext (congrArg (fun g : GSem nD τ sig => g.1.1) h) (recvS_inj (SemLoc.dma.inj (congrArg Prod.snd h)))⟩

theorem barCells_eq : barCells = Finset.univ.map barEmb := by
  rw [Finset.map_eq_image]; rfl
theorem scCells_eq : scCells = Finset.univ.map sendEmb ∪ Finset.univ.map recvEmb := by
  rw [Finset.map_eq_image, Finset.map_eq_image]; rfl

theorem disjoint_bar : Disjoint barCells scCells := by
  rw [Finset.disjoint_left, barCells_eq, scCells_eq]
  rintro g h₁ h₂
  obtain ⟨c, -, rfl⟩ := Finset.mem_map.mp h₁
  rcases Finset.mem_union.mp h₂ with h | h
  · obtain ⟨p, -, h⟩ := Finset.mem_map.mp h
    exact absurd (congrArg Prod.snd h) (fun h => nomatch h)
  · obtain ⟨p, -, h⟩ := Finset.mem_map.mp h
    exact absurd (congrArg Prod.snd h) (fun h => nomatch h)
theorem disjoint_sc : Disjoint (Finset.univ.map sendEmb) (Finset.univ.map recvEmb) := by
  rw [Finset.disjoint_left]
  rintro g h₁ h₂
  obtain ⟨p, -, rfl⟩ := Finset.mem_map.mp h₁
  obtain ⟨q, -, h⟩ := Finset.mem_map.mp h₂
  exact send_ne_recv p.2 q.2 (SemLoc.dma.inj (congrArg Prod.snd h)).symm

theorem step_inj {i j : Fin 30} (hs : sl i.val = sl j.val) (hr : i.val / 2 = j.val / 2) : i = j := by
  have h : i.val % 2 = j.val % 2 := congrArg Fin.val hs
  exact Fin.ext (by omega)

abbrev Tok : Type := GSem nD τ sig × ℕ × Bool
def barTok : Dev nD × Bool ↪ Tok := ⟨fun p => (barCell p.1, 0, p.2), fun _ _ h =>
  Prod.ext (congrArg (fun t : Tok => t.1.1.1) h) (congrArg (fun t : Tok => t.2.2) h)⟩
def sendTok : Dev nD × Bool × Fin 30 ↪ Tok := ⟨fun p => (sendCell p.2.1 p.1 (sl p.2.2.val), p.2.2.val / 2, false), fun p q h => by
  have hb : (p.2.1, sl p.2.2.val) = (q.2.1, sl q.2.2.val) := sendS_inj (SemLoc.dma.inj (congrArg (fun t : Tok => t.1.2) h))
  have hr : p.2.2.val / 2 = q.2.2.val / 2 := congrArg (fun t : Tok => t.2.1) h
  exact Prod.ext (congrArg (fun t : Tok => t.1.1.1) h) (Prod.ext (congrArg (fun t : Bool × Fin 2 => t.1) hb) (step_inj (congrArg (fun t : Bool × Fin 2 => t.2) hb) hr))⟩
def recvTok : Dev nD × Bool × Fin 30 ↪ Tok := ⟨fun p => (recvCell p.2.1 p.1 (sl p.2.2.val), p.2.2.val / 2, false), fun p q h => by
  have hb : (p.2.1, sl p.2.2.val) = (q.2.1, sl q.2.2.val) := recvS_inj (SemLoc.dma.inj (congrArg (fun t : Tok => t.1.2) h))
  have hr : p.2.2.val / 2 = q.2.2.val / 2 := congrArg (fun t : Tok => t.2.1) h
  exact Prod.ext (congrArg (fun t : Tok => t.1.1.1) h) (Prod.ext (congrArg (fun t : Bool × Fin 2 => t.1) hb) (step_inj (congrArg (fun t : Bool × Fin 2 => t.2) hb) hr))⟩

def toks : Finset Tok := Finset.univ.map barTok ∪ (Finset.univ.map sendTok ∪ Finset.univ.map recvTok)

theorem disjoint_toks : Disjoint (Finset.univ.map sendTok) (Finset.univ.map recvTok) := by
  rw [Finset.disjoint_left]
  rintro g h₁ h₂
  obtain ⟨p, -, rfl⟩ := Finset.mem_map.mp h₁
  obtain ⟨q, -, h⟩ := Finset.mem_map.mp h₂
  exact send_ne_recv (p.2.1, sl p.2.2.val) (q.2.1, sl q.2.2.val) (SemLoc.dma.inj (congrArg (fun t : Tok => t.1.2) h)).symm
theorem disjoint_toks' : Disjoint (Finset.univ.map barTok) (Finset.univ.map sendTok ∪ Finset.univ.map recvTok) := by
  rw [Finset.disjoint_left]
  rintro g h₁ h₂
  obtain ⟨c, -, rfl⟩ := Finset.mem_map.mp h₁
  rcases Finset.mem_union.mp h₂ with h | h
  · obtain ⟨p, -, h⟩ := Finset.mem_map.mp h
    exact absurd (congrArg (fun t : Tok => t.1.2) h) (fun h => nomatch h)
  · obtain ⟨p, -, h⟩ := Finset.mem_map.mp h
    exact absurd (congrArg (fun t : Tok => t.1.2) h) (fun h => nomatch h)

/-- One step to the next device. -/
def turn (b : Bool) : Dev nD ≃ Dev nD := ⟨nbr b, nbr (!b), nbr_nbr' b, nbr_nbr b⟩

theorem big_steps (Φ : ℕ → sProp 𝕄) : (bigSep Finset.univ fun i : Fin 30 => Φ i.val) = bigSep (Finset.Ico 0 30) Φ := by
  rw [show Finset.Ico 0 30 = (Finset.univ : Finset (Fin 30)).map Fin.valEmbedding by decide, bigSep_map]
  rfl

/-- The tokens of the duties device `c` pays. -/
def duties (c : Dev nD) : sProp 𝕄 :=
  iprop((dutyTok ER (barCell (nbr true c)) 0 false ∗ dutyTok ER (barCell (nbr false c)) 0 true)
    ∗ bigSep Finset.univ fun b : Bool => iprop((bigSep (Finset.Ico 0 30) fun i => dutyTok ER (sendCell b c (sl i)) (i / 2) false)
      ∗ bigSep (Finset.Ico 0 30) fun i => dutyTok ER (recvCell b (nbr b c) (sl i)) (i / 2) false))

theorem bar_dealt : (bigSep (Finset.univ.map barTok) fun x => (dutyTok ER x.1 x.2.1 x.2.2 : sProp 𝕄))
    = bigSep Finset.univ fun c : Dev nD => iprop(dutyTok ER (barCell (nbr true c)) 0 false ∗ dutyTok ER (barCell (nbr false c)) 0 true) := by
  rw [bigSep_map, bigSep_univ_prod, bigSep_univ_comm, big_bool,
    bigSep_univ_equiv (turn true) (fun c : Dev nD => (dutyTok ER (barTok (c, false)).1 (barTok (c, false)).2.1 (barTok (c, false)).2.2 : sProp 𝕄)),
    bigSep_univ_equiv (turn false) (fun c : Dev nD => (dutyTok ER (barTok (c, true)).1 (barTok (c, true)).2.1 (barTok (c, true)).2.2 : sProp 𝕄)),
    ← bigSep_sep']
  rfl

theorem send_dealt : (bigSep (Finset.univ.map sendTok) fun x => (dutyTok ER x.1 x.2.1 x.2.2 : sProp 𝕄))
    = bigSep Finset.univ fun c : Dev nD => bigSep Finset.univ fun b : Bool => bigSep (Finset.Ico 0 30) fun i => (dutyTok ER (sendCell b c (sl i)) (i / 2) false : sProp 𝕄) := by
  rw [bigSep_map, bigSep_univ_prod]
  refine bigSep_congr fun c _ => ?_
  rw [bigSep_univ_prod]
  exact bigSep_congr fun b _ => big_steps fun i => (dutyTok ER (sendCell b c (sl i)) (i / 2) false : sProp 𝕄)

theorem recv_dealt : (bigSep (Finset.univ.map recvTok) fun x => (dutyTok ER x.1 x.2.1 x.2.2 : sProp 𝕄))
    = bigSep Finset.univ fun c : Dev nD => bigSep Finset.univ fun b : Bool => bigSep (Finset.Ico 0 30) fun i => (dutyTok ER (recvCell b (nbr b c) (sl i)) (i / 2) false : sProp 𝕄) := by
  rw [bigSep_map, bigSep_univ_prod]
  refine Eq.trans (b := bigSep Finset.univ fun c : Dev nD => bigSep Finset.univ fun b : Bool => bigSep (Finset.Ico 0 30) fun i => (dutyTok ER (recvCell b c (sl i)) (i / 2) false : sProp 𝕄)) ?_ ?_
  · refine bigSep_congr fun c _ => ?_
    rw [bigSep_univ_prod]
    exact bigSep_congr fun b _ => big_steps fun i => (dutyTok ER (recvCell b c (sl i)) (i / 2) false : sProp 𝕄)
  · rw [bigSep_univ_comm, bigSep_univ_comm (fun (c : Dev nD) (b : Bool) => bigSep (Finset.Ico 0 30) fun i => (dutyTok ER (recvCell b (nbr b c) (sl i)) (i / 2) false : sProp 𝕄))]
    exact bigSep_congr fun b _ => bigSep_univ_equiv (turn b) (fun c : Dev nD => bigSep (Finset.Ico 0 30) fun i => (dutyTok ER (recvCell b c (sl i)) (i / 2) false : sProp 𝕄))

theorem toks_dealt : (bigSep toks fun x => (dutyTok ER x.1 x.2.1 x.2.2 : sProp 𝕄)) = bigSep Finset.univ (duties (F := F)) := by
  unfold toks duties
  rw [bigSep_union disjoint_toks', bigSep_union disjoint_toks, bar_dealt, send_dealt, recv_dealt, ← bigSep_sep, ← bigSep_sep]
  refine bigSep_congr fun c _ => ?_
  rw [← bigSep_sep]
  rfl

/-- The rights to open the transfer cells of device `c`. -/
def rights (c : Dev nD) : sProp 𝕄 :=
  iprop(bigSep Finset.univ fun p : Bool × Fin 2 => iprop(openTok ER (sendCell p.1 c p.2) ∗ openTok ER (recvCell p.1 c p.2)))

theorem rights_dealt : (bigSep scCells fun g => (openTok ER g : sProp 𝕄)) = bigSep Finset.univ (rights (F := F)) := by
  unfold rights
  rw [scCells_eq, bigSep_union disjoint_sc, bigSep_map, bigSep_map, bigSep_univ_prod, bigSep_univ_prod, ← bigSep_sep]
  refine bigSep_congr fun c _ => ?_
  rw [← bigSep_sep]
  rfl

/-! ## What a device carries from launch to the kernel -/

/-- What any device may consult. -/
def records (K : GSem nD τ sig → ℕ) : sProp 𝕄 :=
  iprop((bigSep (barCells ∪ scCells) fun g => cellInv ER (rd A) (K g) g) ∗ bigSep barCells fun g => reached ER g 0)

instance records_persistent (K : GSem nD τ sig → ℕ) : BI.Persistent (records A K) := by unfold records; infer_instance

/-- What is one device's own. -/
def mine (c : Dev nD) : sProp 𝕄 :=
  iprop(atPos ER (barCell c) 0 ∅ 0 ∗ rights (F := F) c ∗ duties (F := F) c ∗ landings (F := F) false c ∗ landings (F := F) true c
    ∗ cred (tallyAt (barCell c) 0 2))

/-- What rides from launch to the kernel. -/
def carry (c : Dev nD) : sProp 𝕄 := iprop((∃ K, records A K) ∗ mine (F := F) c)

/-- What the kernel starts with. -/
def entry (c : Dev nD) : sProp 𝕄 :=
  iprop((∃ K, ctx A K) ∗ shake (F := F) c ∗ ghost (F := F) false c 0 ∗ ghost (F := F) true c 0)

theorem open_pair (K : GSem nD τ sig → ℕ) (b : Bool) (c : Dev nD) (s : Fin 2) :
    iprop(ctx A K ∗ (openTok ER (sendCell b c s) ∗ openTok ER (recvCell b c s)) ∗ (semVal (sendCell b c s) 0 ∗ semVal (recvCell b c s) 0))
      ⊢ (|={Set.univ}=> (atPos ER (sendCell b c s) 0 ∅ 0 ∗ reached ER (sendCell b c s) 0 ∗ atPos ER (recvCell b c s) 0 ∅ 0 ∗ reached ER (recvCell b c s) 0) : sProp 𝕄) := by
  iintro ⟨#Hctx, ⟨Ho, Ho'⟩, ⟨Hs, Hs'⟩⟩
  imod (Rounds.cell_open ER (rd A) (g := sendCell b c s) (Set.mem_univ (K (sendCell b c s)))) $$ [Ho Hs] with ⟨Ha, #Hr⟩
  · isplitr; · iapply (ctx_send A K b c s); iexact Hctx
    isplitl [Ho] <;> iassumption
  imod (Rounds.cell_open ER (rd A) (g := recvCell b c s) (Set.mem_univ (K (recvCell b c s)))) $$ [Ho' Hs'] with ⟨Ha', #Hr'⟩
  · isplitr; · iapply (ctx_recv A K b c s); iexact Hctx
    isplitl [Ho'] <;> iassumption
  imodintro
  isplitl [Ha]; · iexact Ha
  isplitr; · iexact Hr
  isplitl [Ha']; · iexact Ha'
  iexact Hr'

theorem toks_join (b : Bool) (c : Dev nD) :
    iprop(((bigSep (Finset.Ico 0 30) fun i => dutyTok ER (sendCell b c (sl i)) (i / 2) false)
      ∗ bigSep (Finset.Ico 0 30) fun i => dutyTok ER (recvCell b (nbr b c) (sl i)) (i / 2) false) ∗ landings (F := F) b c)
      ⊢ bigSep (Finset.Ico 0 30) (tok (F := F) b c) := by
  unfold landings
  rw [show bigSep (Finset.Ico 0 30) (tok (F := F) b c) = bigSep (Finset.Ico 0 30) fun i =>
      iprop(dutyTok ER (sendCell b c (sl i)) (i / 2) false ∗ dutyTok ER (recvCell b (nbr b c) (sl i)) (i / 2) false ∗ cred (tallyAt (recvCell b c (sl i)) i N)) from rfl,
    show (bigSep (Finset.Ico 0 30) fun i =>
      iprop(dutyTok ER (sendCell b c (sl i)) (i / 2) false ∗ dutyTok ER (recvCell b (nbr b c) (sl i)) (i / 2) false ∗ cred (tallyAt (recvCell b c (sl i)) i N)) : sProp 𝕄) = _
      from bigSep_sep' _ _ _,
    show (bigSep (Finset.Ico 0 30) fun i =>
      iprop(dutyTok ER (recvCell b (nbr b c) (sl i)) (i / 2) false ∗ cred (tallyAt (recvCell b c (sl i)) i N)) : sProp 𝕄) = _
      from bigSep_sep' _ _ _]
  iintro ⟨⟨H1, H2⟩, H3⟩
  isplitl [H1]; · iexact H1
  isplitl [H2] <;> iassumption

theorem ghost_intro (K : GSem nD τ sig → ℕ) (b : Bool) (c : Dev nD) :
    iprop(ctx A K ∗ ((openTok ER (sendCell b c 0) ∗ openTok ER (recvCell b c 0)) ∗ (openTok ER (sendCell b c 1) ∗ openTok ER (recvCell b c 1)))
        ∗ quiet (F := F) b c ∗ bigSep (Finset.Ico 0 30) (tok (F := F) b c))
      ⊢ (|={Set.univ}=> ghost (F := F) b c 0 : sProp 𝕄) := by
  unfold quiet ghost pos
  iintro ⟨#Hctx, ⟨Ho0, Ho1⟩, ⟨Hv0, Hv1⟩, Ht⟩
  imod (open_pair A K b c 0) $$ [Ho0 Hv0] with H0
  · isplitr; · iexact Hctx
    isplitl [Ho0] <;> iassumption
  imod (open_pair A K b c 1) $$ [Ho1 Hv1] with H1
  · isplitr; · iexact Hctx
    isplitl [Ho1] <;> iassumption
  imodintro
  isplitl [H0]; · iexact H0
  isplitl [H1]; · iexact H1
  iexact Ht

theorem enter (c : Dev nD) : iprop(carry A c ∗ (quiet (F := F) false c ∗ quiet (F := F) true c) ∗ levAts L lv) ⊢ (|={Set.univ}=> entry A c : sProp 𝕄) := by
  unfold carry mine entry rights duties
  rw [bigSep_univ_prod, big_bool, big_slots, big_slots, big_bool]
  iintro ⟨⟨⟨%K, #HR⟩, Hat, ⟨Ho, Ho'⟩, ⟨⟨Hb, Hb'⟩, ⟨Hd, Hd'⟩⟩, Hl, Hl', Hc⟩, ⟨Hq, Hq'⟩, #Hlev⟩
  unfold records
  icases HR with ⟨#HI, #Hr⟩
  ihave #Hctx : ctx A K $$ []
  · unfold ctx
    isplitr
    · iexact HI
    · iexact Hlev
  imod (ghost_intro A K false c) $$ [Ho Hq Hd Hl] with Hg
  · isplitr; · iexact Hctx
    isplitl [Ho]; · iexact Ho
    isplitl [Hq]; · iexact Hq
    iapply (toks_join false c)
    isplitl [Hd] <;> iassumption
  imod (ghost_intro A K true c) $$ [Ho' Hq' Hd' Hl'] with Hg'
  · isplitr; · iexact Hctx
    isplitl [Ho']; · iexact Ho'
    isplitl [Hq']; · iexact Hq'
    iapply (toks_join true c)
    isplitl [Hd'] <;> iassumption
  imodintro
  isplitr
  · iexists K; iexact Hctx
  isplitl [Hat Hc Hb Hb']
  · unfold shake
    isplitl [Hat]; · iexact Hat
    isplitl [Hc]; · iexact Hc
    isplitl [Hb]; · iexact Hb
    isplitr; · iapply (pick (Φ := fun g => (reached ER g 0 : sProp 𝕄)) (i := barCell (nbr true c)) (Finset.mem_image_of_mem _ (Finset.mem_univ _))); iexact Hr
    isplitl [Hb']; · iexact Hb'
    iapply (pick (Φ := fun g => (reached ER g 0 : sProp 𝕄)) (i := barCell (nbr false c)) (Finset.mem_image_of_mem _ (Finset.mem_univ _))); iexact Hr
  isplitl [Hg] <;> iassumption

/-! ## The launch -/

/-- A device's share of what the launch makes. -/
def dealt (c : Dev nD) : sProp 𝕄 := iprop(atPos ER (barCell c) 0 ∅ 0 ∗ rights (F := F) c ∗ duties (F := F) c)

theorem fund_cells (S Sd : Finset (GSem nD τ sig)) (T : Finset Tok) (h : Disjoint S Sd) :
    iprop((bigSep S fun g => semVal g 0) ∗ BI.own (ER (launchOf S Sd T)))
      ⊢ (|={Set.univ}=> iprop(∃ K : GSem nD τ sig → ℕ, ((bigSep (S ∪ Sd) fun g => cellInv ER (rd A) (K g) g) ∗ bigSep S fun g => reached ER g 0)
        ∗ (bigSep S fun g => atPos ER g 0 ∅ 0) ∗ (bigSep Sd fun g => openTok ER g) ∗ bigSep T fun x => dutyTok ER x.1 x.2.1 x.2.2) : sProp 𝕄) := by
  iintro ⟨Hv, Hu⟩
  imod (Rounds.fund_launch ER (rd A) h (fun g _ h => h) T) $$ [Hv Hu] with ⟨%K, -, #Hinv, #Hr, Hat, Hopen, Htok⟩
  · isplitl [Hv] <;> iassumption
  imodintro
  iexists K
  isplitr
  · isplitr
    · iexact Hinv
    · iexact Hr
  isplitl [Hat]; · iexact Hat
  isplitl [Hopen]; · iexact Hopen
  iexact Htok

theorem bars_val : bigSep barCells (fun g => (semVal g 0 : sProp 𝕄)) = bigSep Finset.univ (fun c : Dev nD => (semVal (barCell c) 0 : sProp 𝕄)) := by
  rw [barCells_eq, bigSep_map]; rfl
theorem bars_at : bigSep barCells (fun g => (atPos ER g 0 ∅ 0 : sProp 𝕄)) = bigSep Finset.univ (fun c : Dev nD => (atPos ER (barCell c) 0 ∅ 0 : sProp 𝕄)) := by
  rw [barCells_eq, bigSep_map]; rfl
theorem dealt_eq : bigSep Finset.univ (dealt (F := F)) = iprop(bigSep Finset.univ (fun c : Dev nD => (atPos ER (barCell c) 0 ∅ 0 : sProp 𝕄))
      ∗ bigSep Finset.univ (rights (F := F)) ∗ bigSep Finset.univ (duties (F := F))) := by
  unfold dealt
  rw [bigSep_sep', bigSep_sep']

theorem fund :
    iprop((bigSep Finset.univ fun c : Dev nD => semVal (barCell c) 0) ∗ BI.own (ER (launchOf barCells scCells toks)))
      ⊢ (|={Set.univ}=> iprop(∃ K, records A K ∗ bigSep Finset.univ (dealt (F := F))) : sProp 𝕄) := by
  have h := fund_cells A barCells scCells toks disjoint_bar
  rw [bars_val, bars_at, rights_dealt, toks_dealt, ← dealt_eq] at h
  exact h

/-- What every device carries, from its share and its launch credit. -/
theorem carry_intro (K : GSem nD τ sig → ℕ) (c : Dev nD) :
    iprop(records A K ∗ dealt (F := F) c ∗ Pipeline.launchCred O₀ c) ⊢ carry A c := by
  unfold carry mine dealt
  iintro ⟨#HR, ⟨Ha, Hr, Hd⟩, Hc⟩
  ihave Hc' := (creds (F := F) c) $$ Hc
  icases Hc' with ⟨H0, H1, H2⟩
  isplitr; · iexists K; iexact HR
  isplitl [Ha]; · iexact Ha
  isplitl [Hr]; · iexact Hr
  isplitl [Hd]; · iexact Hd
  isplitl [H0]; · iexact H0
  isplitl [H1] <;> iassumption

end Cert.KernelIdeal.Ring

end
-- ==== Proof.KernelIdeal.BodyEq.lean ====
/-
  The printed body of the kernel is the short program of `Norm`: both are a sequence of the same operations, met
  one at a time.
-/
module

public import proofs.«01_k».proof.Proof.KernelIdeal.Norm

@[expose] public section

noncomputable section

namespace Cert.KernelIdeal.Ring

open Idealize.ShloMosaic Idealize.SL.Sem
open Cert.KernelIdeal.Gen

variable {F : FTy → Type} [FloatOps F] [Named F]

theorem op_congr.{v} {E : Type → Type v} {α β : Type} {e : E β} {k k' : β → Prog E α} (h : ∀ x, k x = k' x) :
    Prog.op e k = Prog.op e k' := congrArg (Prog.op e) (funext h)

set_option maxHeartbeats 40000000 in
/-- The printed body is the short program. -/
theorem body_eq (arg0 : Memref sig .tc .vmem S2048x1024 .f32) (h0 : arg0.IsWhole) (arg1 : Memref sig .tc .vmem S1024x1024 .f32) (h1 : arg1.IsWhole)
    (arg2 : Memref sig .tc .vmem S8x2048x128 .f32) (h2 : arg2.IsWhole) (arg3 : Memref sig .tc .vmem S8x2048x128 .f32) (h3 : arg3.IsWhole)
    (arg4 : Memref sig .tc .vmem S1024x1024 .f32) (h4 : arg4.IsWhole) (arg5 : Memref sig .tc .vmem S2048x1024 .f32) (h5 : arg5.IsWhole)
    (arg6 : Memref sig .tc .vmem S2x128x512 .f32) (h6 : arg6.IsWhole) (arg7 : Memref sig .tc .vmem S2x128x512 .f32) (h7 : arg7.IsWhole)
    (arg8 arg9 arg10 arg11 : DmaSems sig S2) :
    cc0_body arg0 h0 arg1 h1 arg2 h2 arg3 h3 arg4 h4 arg5 h5 arg6 h6 arg7 h7 arg8 arg9 arg10 arg11
      = nbody (F := F) arg0 arg1 arg2 arg3 arg4 arg5 arg6 arg7 arg8 arg9 arg10 arg11 := by
  rw [cc0_body_eq_skeleton]
  repeat refine op_congr fun _ => ?_
  rfl

end Cert.KernelIdeal.Ring

end
-- ==== Proof.KernelIdeal.Region.lean ====
/-
  The kernel region as a segment of the program: the staged inputs, what the region starts with and leaves, its body
  obligation, and its record.
-/
module

public import proofs.«01_k».proof.Proof.KernelIdeal.Fund
public import proofs.«01_k».proof.Proof.KernelIdeal.BodyEq
public import proofs.«01_k».proof.Proof.Gen.KernelIdeal.Regions
public import proofs.«01_k».proof.Proof.Gen.KernelIdeal.Points
public import Idealize.ShloMosaic.Lib.Pipeline.RegionTalk

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F] [Named F]

local notation "𝕄" => MT nD τ sig ℕ (Elt F) ℕ UU ℕ

variable (m : (ℓ : Loc nD τ sig) → Buf (Elt F) ℓ)

/-! ## Contents -/

/-- What the region stages of its inputs on device `c`. -/
def inX (c : Dev nD) : xM.view.ref.ty.Contents (Elt F) := ((cfg0.win 0).blk t0_0).view.read (Elt F) (V1 m c main_v5)
def inWq (c : Dev nD) : wqM.view.ref.ty.Contents (Elt F) := ((cfg0.win 1).blk t0_0).view.read (Elt F) (V1 m c main_arg1)
def inK (c : Dev nD) : kM.view.ref.ty.Contents (Elt F) := ((cfg0.win 2).blk t0_0).view.read (Elt F) (V1 m c main_v18)
def inV (c : Dev nD) : vM.view.ref.ty.Contents (Elt F) := ((cfg0.win 3).blk t0_0).view.read (Elt F) (V1 m c main_v19)
def inWo (c : Dev nD) : woM.view.ref.ty.Contents (Elt F) := ((cfg0.win 4).blk t0_0).view.read (Elt F) (V1 m c main_arg4)

/-- What device `c` computes before the ring. -/
def part₀ (c : Dev nD) : outM.view.ref.ty.Contents (Elt F) := localOut (inX m c) (inWq m c) (inK m c) (inV m c) (inWo m c)

/-- What every device ends with. -/
def whole₀ : outM.view.ref.ty.Contents (Elt F) := finalOut (part₀ m)

/-! ## The proof data -/

def before₀ (c : Dev nD) : sProp 𝕄 :=
  iprop(entry (part₀ m) c ∗ commAny (F := F) false c ∗ commAny (F := F) true c ∗ ∃ r, prngReg c r)
def after₀ (c : Dev nD) : sProp 𝕄 :=
  iprop(semVal (barCell c) 0 ∗ (quiet (F := F) false c ∗ quiet (F := F) true c) ∗ commAny (F := F) false c ∗ commAny (F := F) true c ∗ ∃ r, prngReg c r)

def dat (c : Dev nD) : Dat τ (Elt F) ℕ ℕ UU ℕ cfg0 c where
  A := fun
    | 0 => V1 m c main_v5
    | 1 => V1 m c main_arg1
    | 2 => V1 m c main_v18
    | 3 => V1 m c main_v19
    | 4 => V1 m c main_arg4
    | 5 => V1 m c main_v20
  after := fun
    | 0 => fun _ => inX m c
    | 1 => fun _ => inWq m c
    | 2 => fun _ => inK m c
    | 3 => fun _ => inV m c
    | 4 => fun _ => inWo m c
    | 5 => fun _ => whole₀ m
  Φ := fun t => if t.val = 0 then before₀ m c else after₀ (F := F) c
  q := fun _ => fullShare
  owed := fun t => if t.val = 0 then O₀ c else 0

abbrev pdats (_ : Fin 1) (c : Dev nD) : Dat τ (Elt F) ℕ ℕ UU ℕ cfg0 c := dat m c

theorem phi_eq (c : Dev nD) (t : Fin (cfg0.N + 1)) : (dat m c).Φ t = if t.val = 0 then before₀ m c else after₀ (F := F) c := rfl
theorem owed_eq (c : Dev nD) (t : Fin (cfg0.N + 1)) : (dat m c).owed t = if t.val = 0 then O₀ c else 0 := rfl
theorem end_ne : ¬ (Fin.last cfg0.N).val = 0 := by rw [Fin.val_last, show cfg0.N = 1 from N_0]; decide
theorem succ_ne : ¬ (t0_0.succ : Fin (cfg0.N + 1)).val = 0 := Nat.succ_ne_zero _
theorem phi_first (c : Dev nD) : (dat m c).Φ t0_0.castSucc = before₀ m c := (phi_eq m c _).trans (if_pos rfl)
theorem phi_zero (c : Dev nD) : (dat m c).Φ 0 = before₀ m c := (phi_eq m c _).trans (if_pos rfl)
theorem phi_last (c : Dev nD) : (dat m c).Φ t0_0.succ = after₀ (F := F) c := (phi_eq m c _).trans (if_neg succ_ne)
theorem phi_end (c : Dev nD) : (dat m c).Φ (Fin.last cfg0.N) = after₀ (F := F) c := (phi_eq m c _).trans (if_neg end_ne)
theorem owed_first (c : Dev nD) : (dat m c).owed t0_0.castSucc = O₀ c := (owed_eq m c _).trans (if_pos rfl)
theorem owed_zero (c : Dev nD) : (dat m c).owed 0 = O₀ c := (owed_eq m c _).trans (if_pos rfl)
theorem owed_last (c : Dev nD) : (dat m c).owed t0_0.succ = 0 := (owed_eq m c _).trans (if_neg succ_ne)
theorem owed_end (c : Dev nD) : (dat m c).owed (Fin.last cfg0.N) = 0 := (owed_eq m c _).trans (if_neg end_ne)

theorem owing_in (c : Dev nD) (t : Fin (cfg0.N + 1)) (O : CellTallies nD τ sig ℕ) (h : (dat m c).owed t = O) (W : Waits sig ℕ) :
    (owes (c : Thread nD τ) O W : sProp 𝕄) ⊢ (dat m c).owesAt 0 t := by
  unfold Dat.owesAt Pipeline.owesWithin Dat.bound
  rw [h, show (dat m c).recorded t = Set.univ from rfl]
  iintro H
  iexists W
  isplitr
  · ipureintro; exact fun _ _ => Or.inl trivial
  iexact H
theorem owing_out (c : Dev nD) (t : Fin (cfg0.N + 1)) (O : CellTallies nD τ sig ℕ) (h : (dat m c).owed t = O) :
    ((dat m c).owesAt 0 t : sProp 𝕄) ⊢ iprop(∃ W, owes (c : Thread nD τ) O W) := by
  unfold Dat.owesAt Pipeline.owesWithin
  rw [h]
  iintro ⟨%W, -, H⟩
  iexists W
  iexact H

/-! ## The body obligation -/

theorem found0 (c : Dev nD) (d) : (dat m c).before 0 t0_0 d = inX m c := by unfold Dat.before; rw [if_pos (by decide)]; rfl
theorem found1 (c : Dev nD) (d) : (dat m c).before 1 t0_0 d = inWq m c := by unfold Dat.before; rw [if_pos (by decide)]; rfl
theorem found2 (c : Dev nD) (d) : (dat m c).before 2 t0_0 d = inK m c := by unfold Dat.before; rw [if_pos (by decide)]; rfl
theorem found3 (c : Dev nD) (d) : (dat m c).before 3 t0_0 d = inV m c := by unfold Dat.before; rw [if_pos (by decide)]; rfl
theorem found4 (c : Dev nD) (d) : (dat m c).before 4 t0_0 d = inWo m c := by unfold Dat.before; rw [if_pos (by decide)]; rfl

theorem owns_whole (c : Dev nD) (b : Ref sig .tc) (X : b.ty.Contents (Elt F)) :
    (owns (c : Thread nD τ) (Memref.whole b) fullShare X : sProp 𝕄)
      = iprop(∃ f, ⌜f = X⌝ ∗ ((Memref.whole b).view.loc (c : Thread nD τ) ↦{fullShare} f)) := by
  unfold owns
  simp only [Memref.view_whole, View.read_whole, View.set_whole]

theorem owns_in (c : Dev nD) (b : Ref sig .tc) (X : b.ty.Contents (Elt F)) :
    ((Memref.whole b).view.loc (c : Thread nD τ) ↦{fullShare} X : sProp 𝕄) ⊢ owns (c : Thread nD τ) (Memref.whole b) fullShare X := by
  rw [owns_whole]
  iintro H
  iexists X
  isplitr
  · ipureintro; rfl
  iexact H
theorem owns_out (c : Dev nD) (b : Ref sig .tc) (X : b.ty.Contents (Elt F)) :
    (owns (c : Thread nD τ) (Memref.whole b) fullShare X : sProp 𝕄) ⊢ ((Memref.whole b).view.loc (c : Thread nD τ) ↦{fullShare} X) := by
  rw [owns_whole]
  iintro ⟨%f, %h, H⟩
  subst h
  iexact H

/-- The staging buffers before the body, and after it. -/
def bufsIn (c : Dev nD) : sProp 𝕄 :=
  iprop((∃ d, owns (c : Thread nD τ) (st0_0 t0_0) fullShare ((dat m c).before 0 t0_0 d)) ∗ (∃ d, owns (c : Thread nD τ) (st0_1 t0_0) fullShare ((dat m c).before 1 t0_0 d))
    ∗ (∃ d, owns (c : Thread nD τ) (st0_2 t0_0) fullShare ((dat m c).before 2 t0_0 d)) ∗ (∃ d, owns (c : Thread nD τ) (st0_3 t0_0) fullShare ((dat m c).before 3 t0_0 d))
    ∗ (∃ d, owns (c : Thread nD τ) (st0_4 t0_0) fullShare ((dat m c).before 4 t0_0 d)) ∗ (∃ d, owns (c : Thread nD τ) (st0_5 t0_0) fullShare ((dat m c).before 5 t0_0 d)))
def bufsOut (c : Dev nD) : sProp 𝕄 :=
  iprop(owns (c : Thread nD τ) (st0_0 t0_0) fullShare (inX m c) ∗ owns (c : Thread nD τ) (st0_1 t0_0) fullShare (inWq m c)
    ∗ owns (c : Thread nD τ) (st0_2 t0_0) fullShare (inK m c) ∗ owns (c : Thread nD τ) (st0_3 t0_0) fullShare (inV m c)
    ∗ owns (c : Thread nD τ) (st0_4 t0_0) fullShare (inWo m c) ∗ owns (c : Thread nD τ) (st0_5 t0_0) fullShare (whole₀ m))

theorem bufs_in (c : Dev nD) : bufsIn m c ⊢ iprop(ins c (inX m c) (inWq m c) (inK m c) (inV m c) (inWo m c) ∗ ∃ g, outM.view.loc (c : Thread nD τ) ↦{fullShare} g) := by
  unfold bufsIn ins kvo
  simp only [found0, found1, found2, found3, found4]
  iintro ⟨⟨%_, H0⟩, ⟨%_, H1⟩, ⟨%_, H2⟩, ⟨%_, H3⟩, ⟨%_, H4⟩, ⟨%d, H5⟩⟩
  isplitr [H5]
  · isplitl [H0]; · iapply (owns_out c cc0_stg0_0 (inX m c)) $$ H0
    isplitl [H1]; · iapply (owns_out c cc0_stg1_0 (inWq m c)) $$ H1
    isplitl [H2]; · iapply (owns_out c cc0_stg2_0 (inK m c)) $$ H2
    isplitl [H3]; · iapply (owns_out c cc0_stg3_0 (inV m c)) $$ H3
    iapply (owns_out c cc0_stg4_0 (inWo m c)) $$ H4
  iexists ((dat m c).before 5 t0_0 d)
  iapply (owns_out c cc0_stg5_0 ((dat m c).before 5 t0_0 d)) $$ H5

theorem bufs_out (c : Dev nD) : iprop(ins c (inX m c) (inWq m c) (inK m c) (inV m c) (inWo m c) ∗ (outM.view.loc (c : Thread nD τ) ↦{fullShare} whole₀ m)) ⊢ bufsOut m c := by
  unfold bufsOut ins kvo
  iintro ⟨⟨H0, H1, H2, H3, H4⟩, H5⟩
  isplitl [H0]; · iapply (owns_in c cc0_stg0_0 (inX m c)) $$ H0
  isplitl [H1]; · iapply (owns_in c cc0_stg1_0 (inWq m c)) $$ H1
  isplitl [H2]; · iapply (owns_in c cc0_stg2_0 (inK m c)) $$ H2
  isplitl [H3]; · iapply (owns_in c cc0_stg3_0 (inV m c)) $$ H3
  isplitl [H4]; · iapply (owns_in c cc0_stg4_0 (inWo m c)) $$ H4
  iapply (owns_in c cc0_stg5_0 (whole₀ m)) $$ H5

theorem body_at (c : Dev nD) : bodyAt0 (F := F) t0_0
    = nbody xM wqM kM vM woM outM (commM false) (commM true) (sendA false) (recvA false) (sendA true) (recvA true) :=
  body_eq _ _ _ _ _ _ _ _ _ _ _ _ _ _ _ _ _ _ _ _

theorem point_run (c : Dev nD) :
    iprop(before₀ m c ∗ (dat m c).owesAt 0 t0_0.castSucc ∗ bufsIn m c)
      ⊢ wp frame (wpE (defs₀ (F := F)) 𝒱₀ c none) Set.univ (bodyAt0 t0_0) fun _ => iprop(after₀ (F := F) c ∗ (dat m c).owesAt 0 t0_0.succ ∗ bufsOut m c) := by
  rw [body_at c]
  unfold before₀ entry
  iintro ⟨⟨⟨⟨%K, #Hctx⟩, Hsh, Hg, Hg'⟩, Hc, Hc', Hp⟩, HO, Hb⟩
  ihave HO := (owing_out m c _ (O₀ c) (owed_first m c)) $$ HO
  icases HO with ⟨%W, HO⟩
  ihave Hb := (bufs_in m c) $$ Hb
  icases Hb with ⟨Hin, ⟨%g, Hout⟩⟩
  iapply (body_run (part₀ m) K c (inX m c) (inWq m c) (inK m c) (inV m c) (inWo m c) rfl (g := g) W) $$ [Hsh Hg Hg' Hc Hc' HO Hin Hout]
  · isplitr; · iexact Hctx
    isplitl [Hsh]; · iexact Hsh
    isplitl [Hg]; · iexact Hg
    isplitl [Hg']; · iexact Hg'
    isplitl [Hin]; · iexact Hin
    isplitl [Hout]; · iexact Hout
    isplitl [Hc]; · iexact Hc
    isplitl [Hc']; · iexact Hc'
    iexact HO
  iintro ⟨Hb, Hq, Hq', Hin, Hout, Hc, Hc', ⟨%W', HO⟩⟩
  unfold after₀
  isplitl [Hb Hq Hq' Hc Hc' Hp]
  · isplitl [Hb]; · iexact Hb
    isplitl [Hq Hq']; · isplitl [Hq] <;> iassumption
    isplitl [Hc]; · iexact Hc
    isplitl [Hc']; · iexact Hc'
    iexact Hp
  isplitl [HO]; · iapply (owing_in m c _ 0 (owed_last m c) W') $$ HO
  iapply (bufs_out m c)
  isplitl [Hin]; · iexact Hin
  iexact Hout

theorem left0 (c : Dev nD) : (dat m c).after 0 t0_0 = inX m c := rfl
theorem left1 (c : Dev nD) : (dat m c).after 1 t0_0 = inWq m c := rfl
theorem left2 (c : Dev nD) : (dat m c).after 2 t0_0 = inK m c := rfl
theorem left3 (c : Dev nD) : (dat m c).after 3 t0_0 = inV m c := rfl
theorem left4 (c : Dev nD) : (dat m c).after 4 t0_0 = inWo m c := rfl
theorem left5 (c : Dev nD) : (dat m c).after 5 t0_0 = whole₀ m := rfl

theorem at_point : defs₀ (F := F) .tc cfg0.body (cfg0.bodyArgs t0_0 (cfg0.slots t0_0)) = bodyAt0 (F := F) t0_0 := by
  with_unfolding_all rfl

/-- A run of the point's program is a run with the windows listed. -/
theorem listed (c : Dev nD) (p : Prog (TpuEff nD τ sig (Elt F) Λ₀ .tc) PUnit)
    (h : iprop(before₀ m c ∗ (dat m c).owesAt 0 t0_0.castSucc ∗ bufsIn m c)
      ⊢ wp frame (wpE (defs₀ (F := F)) 𝒱₀ c none) Set.univ p fun _ => iprop(after₀ (F := F) c ∗ (dat m c).owesAt 0 t0_0.succ ∗ bufsOut m c)) :
    iprop((dat m c).Φ t0_0.castSucc ∗ (dat m c).owesAt 0 t0_0.castSucc
        ∗ bigSep Finset.univ fun w : Fin cfg0.W => iprop(∃ d, owns (c : Thread nD τ) ((cfg0.win w).stage (cfg0.slots t0_0 w)) fullShare ((dat m c).before w t0_0 d)))
      ⊢ wp frame (wpE (defs₀ (F := F)) 𝒱₀ c none) Set.univ p fun _ =>
          iprop((dat m c).Φ t0_0.succ ∗ (dat m c).owesAt 0 t0_0.succ
            ∗ bigSep Finset.univ fun w : Fin cfg0.W => owns (c : Thread nD τ) ((cfg0.win w).stage (cfg0.slots t0_0 w)) fullShare ((dat m c).after w t0_0)) := by
  rw [bigSep_W0, bigSep_W0, phi_first, phi_last, left0, left1, left2, left3, left4, left5]
  unfold bufsIn bufsOut at h
  exact h

theorem body (c : Dev nD) : BodyObligation (dat m c) (defs₀ (F := F)) 𝒱₀ 0 Set.univ := fun t => by
  obtain rfl := fin_N0 t
  rw [at_point]
  have h := listed m c _ (point_run m c)
  generalize bodyAt0 (F := F) t0_0 = p at h ⊢
  exact h

end Cert.KernelIdeal.Ring

end
-- ==== Proof.KernelIdeal.Launch.lean ====
/-
  The run of the whole program: every argument ends as launched, every device's result is the value the last host
  operation makes of the region's result, and every semaphore counter ends at zero.
-/
module

public import proofs.«01_k».proof.Proof.KernelIdeal.Region

@[expose] public section

set_option maxRecDepth 8000

noncomputable section

namespace Cert.KernelIdeal.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)
open Cert.KernelIdeal.Gen

variable {F : FTy → Type} [FloatOps F] [Named F]

local notation "𝕄" => MT nD τ sig ℕ (Elt F) ℕ UU ℕ

variable (m : (ℓ : Loc nD τ sig) → Buf (Elt F) ℓ) (ρ : Dev nD → PrngReg)

/-! ## The region's record -/

/-- The kernel's own counters. -/
def ownSem : Bool × Fin 2 × Bool → SemLoc sig := fun p => .dma (if p.2.2 then recvS p.1 p.2.1 else sendS p.1 p.2.1)

theorem ownSem_facts : Pipeline.OwnSemFacts spec0 ownSem := by decide

theorem ownSem_eq (c : Dev nD) : (Pipeline.ownSems0 ownSem c : sProp 𝕄) = iprop(quiet (F := F) false c ∗ quiet (F := F) true c) := by
  unfold Pipeline.ownSems0 quiet
  rw [bigSep_univ_prod, big_bool, bigSep_univ_prod, bigSep_univ_prod, big_slots, big_slots, big_bool, big_bool, big_bool, big_bool]
  rfl

/-- What the region leaves in its result's array. -/
def result (c : Dev nD) : Buf (Elt F) ((c : Thread nD τ).loc main_v20) := (dat m c).arrAt 5 cfg0.N

def outs : Outs (F := F) := fun _ r c => Function.update (V1 m c) (Proc.devRef .tc main_v20) (result m c) (Proc.devRef .tc r)

theorem outs_eq (c : Dev nD) : outs m 2 main_v20 c = result m c := by
  unfold outs; exact Function.update_self _ _ _

theorem V2_out (c : Dev nD) : V2 m (outs m) c (Proc.devRef .tc main_v20) = result m c := by
  unfold V2; rw [Function.update_self, outs_eq]

theorem V2_ne (c : Dev nD) {b : DevRef τ sig} (h : b ≠ Proc.devRef .tc main_v20) : V2 m (outs m) c b = V1 m c b := by
  unfold V2; exact Function.update_of_ne h _ _

abbrev others : Finset (DevRef τ sig) := Pipeline.ucRefs τ sig \ Pipeline.arrRefs (τ := τ) (pcfgs (F := F) 0).spec

theorem out_mem : Proc.devRef .tc main_v20 ∈ Pipeline.arrRefs (τ := τ) (pcfgs (F := F) 0).spec :=
  Finset.mem_map.mpr ⟨main_v20, Finset.mem_image.mpr ⟨(5 : Fin 6), Finset.mem_univ _, rfl⟩, rfl⟩

theorem O₀_pos {c : Dev nD} {g : GSem nD τ sig} {i : ℕ} (h : 0 < O₀ c g i) : i ∈ L g ∧ 0 < lv g i := by
  have h' : 0 < owedR false c 0 g i + owedR true c 0 g i + tallyAt (barCell (nbr false c)) 0 1 g i + tallyAt (barCell (nbr true c)) 0 1 g i := h
  have hring : ∀ b, 0 < owedR b c 0 g i → i ∈ L g ∧ 0 < lv g i := fun b hb => by
    obtain ⟨-, hi, rfl⟩ := owedR_pos hb
    refine ⟨?_, ?_⟩
    · rw [show L (recvCell b (nbr b c) (sl i)) = Finset.range 32 from L_tc _ _]; exact Finset.mem_range.mpr (by omega)
    · rw [lv_recv]; omega
  have hbar : ∀ b, 0 < (tallyAt (barCell (nbr b c)) 0 1 : CellTallies nD τ sig ℕ) g i → i ∈ L g ∧ 0 < lv g i := fun b hb => by
    rw [tallyAt_apply] at hb
    split at hb
    · next hg =>
      obtain ⟨rfl, rfl⟩ := hg
      exact ⟨by rw [show L (barCell (nbr b c)) = Finset.range 32 from L_tc _ _]; decide, Nat.one_pos⟩
    · exact absurd hb (Nat.lt_irrefl 0)
  rcases Nat.add_pos_iff_pos_or_pos.mp h' with h' | h'
  · rcases Nat.add_pos_iff_pos_or_pos.mp h' with h' | h'
    · rcases Nat.add_pos_iff_pos_or_pos.mp h' with h' | h'
      · exact hring _ h'
      · exact hring _ h'
    · exact hbar _ h'
  · exact hbar _ h'

theorem owed_cut (c : Dev nD) (t : Fin (cfg0.N + 1)) (g : GSem nD τ sig) (i : ℕ) (h : 0 < (dat m c).owed t g i) : i ∈ L g ∧ (0 : ℕ) < lv g i := by
  rw [owed_eq] at h
  split at h
  · exact O₀_pos h
  · exact absurd h (Nat.lt_irrefl 0)

theorem entering (c : Dev nD) :
    iprop(carry (part₀ m) c ∗ Pipeline.ownSems0 ownSem c ∗ levAts L lv) ⊢ (|={Set.univ}=> entry (part₀ m) c : sProp 𝕄) := by
  rw [ownSem_eq]; exact enter (part₀ m) c

theorem scoped_eq (c : Dev nD) : (Pipeline.scopedRest (Ix := ℕ) (Name := ℕ) (U := UU) (Lvl := ℕ) (Val := Elt F) spec0 c : sProp 𝕄)
    = iprop(commAny (F := F) false c ∗ commAny (F := F) true c) := scopedRest0_eq c

theorem region_in (c : Dev nD) :
    iprop(Pipeline.scopedRest (Ix := ℕ) (Name := ℕ) (U := UU) (Lvl := ℕ) (Val := Elt F) spec0 c ∗ (∃ r, prngReg c r)
      ∗ StableHlo.held (c.tc : Thread nD τ) ∅ (V1 m c) ∗ entry (part₀ m) c) ⊢ (dat m c).Φ 0 := by
  rw [phi_zero, scoped_eq]
  unfold before₀
  iintro ⟨⟨Hc, Hc'⟩, Hp, -, He⟩
  isplitl [He]; · iexact He
  isplitl [Hc]; · iexact Hc
  isplitl [Hc']; · iexact Hc'
  iexact Hp

theorem region_out (c : Dev nD) :
    (dat m c).Φ (Fin.last cfg0.N) ⊢ iprop(Pipeline.scopedRest (Ix := ℕ) (Name := ℕ) (U := UU) (Lvl := ℕ) (Val := Elt F) spec0 c ∗ (∃ r, prngReg c r)
      ∗ StableHlo.held (c.tc : Thread nD τ) ∅ (V2 m (outs m) c) ∗ Pipeline.ownSems0 ownSem c ∗ semVal (barCell c) 0) := by
  rw [phi_end, scoped_eq, ownSem_eq]
  unfold after₀ StableHlo.held
  rw [BI.bigSep_empty]
  iintro ⟨Hb, Hq, Hc, Hc', Hp⟩
  isplitl [Hc Hc']; · isplitl [Hc] <;> iassumption
  isplitl [Hp]; · iexact Hp
  isplitr; · iempintro
  isplitl [Hq]; · iexact Hq
  iexact Hb

theorem entry_arr (c : Dev nD) : ∀ w : Fin 6, (dat m c).arrAt w 0 = V1 m c (Proc.devRef .tc (Pipeline.arrRef spec0 w))
  | 0 => rfl | 1 => rfl | 2 => rfl | 3 => rfl | 4 => rfl | 5 => rfl

theorem exit_arr (c : Dev nD) : ∀ w : Fin 6, (dat m c).arrAt w cfg0.N = V2 m (outs m) c (Proc.devRef .tc (Pipeline.arrRef spec0 w))
  | 0 => ((dat m c).arrAt_in 0 rfl _).trans (V2_ne m c (b := Proc.devRef .tc main_v5) (by decide)).symm
  | 1 => ((dat m c).arrAt_in 1 rfl _).trans (V2_ne m c (b := Proc.devRef .tc main_arg1) (by decide)).symm
  | 2 => ((dat m c).arrAt_in 2 rfl _).trans (V2_ne m c (b := Proc.devRef .tc main_v18) (by decide)).symm
  | 3 => ((dat m c).arrAt_in 3 rfl _).trans (V2_ne m c (b := Proc.devRef .tc main_v19) (by decide)).symm
  | 4 => ((dat m c).arrAt_in 4 rfl _).trans (V2_ne m c (b := Proc.devRef .tc main_arg4) (by decide)).symm
  | 5 => (V2_out m c).symm

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stage_level (c : Dev nD) : ∀ (w : Fin 6) (s : Fin (spec0 w).nbuf), lv ((c : Thread nD τ), .dma ((spec0 w).sem s)) 0 = 0
  | 0 => fun _ => rfl | 1 => fun _ => rfl | 2 => fun _ => rfl | 3 => fun _ => rfl | 4 => fun _ => rfl | 5 => fun _ => rfl

set_option backward.isDefEq.respectTransparency.types false in
def reg : RegionSeg (pcfgs (F := F)) adm (pdats m) 0 defs₀ 𝒱₀ L lv 0 :=
  RegionSeg.ofTalk (pcfgs (F := F)) adm (pdats m) 0 defs₀ 𝒱₀ L lv 0 ownSem ownSem_facts
    ∅ (others (F := F)) (Finset.empty_subset _) kit rfl (fun c => (body m c).loose)
    (fun _ => 0) O₀ (fun c => (owed_zero m c).trans (zero_add _).symm) (owed_end m) (fun _ => rfl)
    (fun c w => (dat m c).share_full (fun _ => rfl) w)
    (V1 m) (V2 m (outs m))
    (fun c b hb => V2_ne m c (fun h => (Finset.mem_sdiff.mp (Finset.mem_sdiff.mp hb).1).2 (h ▸ out_mem)))
    (carry (part₀ m)) (fun c => semVal (barCell c) 0) (entry (part₀ m)) (fun c => semVal (barCell c) 0)
    (entering m) (region_in m) (region_out m)
    (fun c => by iintro H; imodintro; iexact H)
    (fun _ => 0)
    ⟨fun c w s => by rw [show L ((c : Thread nD τ), _) = Finset.range 32 from L_tc _ _]; decide,
      fun c w s => (stage_level c w s).le, fun c t g i h => owed_cut m c t g i h⟩
    (fun _ => iprop(emp))
    (entry_arr m) (exit_arr m)

/-! ## What rides beside the buffers -/

def riding : Fin 2 → Dev nD → sProp 𝕄
  | 0 => fun c => iprop(carry (part₀ m) c ∗ (∃ r, prngReg c r) ∗ ∃ W, owes (c : Thread nD τ) (O₀ c) W)
  | 1 => fun c => iprop(semVal (barCell c) 0 ∗ ∃ W, owes (c : Thread nD τ) (0 : CellTallies nD τ sig ℕ) W)

theorem arr_unscoped : ∀ w : Fin 6, (Pipeline.arrRef spec0 w).isScoped = false := by decide

theorem split_bufs (c : Dev nD) (V : Valuation τ sig (Elt F)) :
    (StableHlo.held (c.tc : Thread nD τ) (Pipeline.ucRefs τ sig) V : sProp 𝕄)
      = iprop(StableHlo.held (c.tc : Thread nD τ) (Pipeline.arrRefs (τ := τ) (pcfgs (F := F) 0).spec) V ∗ StableHlo.held (c.tc : Thread nD τ) (others (F := F)) V) :=
  StableHlo.held_sub_split (c.tc : Thread nD τ) (Pipeline.arrRefs_sub_ucRefs _ arr_unscoped) V

theorem reg_pre (c : Dev nD) : iprop(StableHlo.held (c : Thread nD τ) (Pipeline.ucRefs τ sig) (V1 m c) ∗ riding m 0 c) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) (others (F := F)) (V1 m c) ∗ emp) ∗ carry (part₀ m) c ∗ ∃ Wd, owes (c : Thread nD τ) (0 + O₀ c) Wd)
  rw [split_bufs, zero_add]
  unfold riding
  iintro ⟨⟨Ha, Ho⟩, Hc, Hp, HO⟩
  isplitl [Ha]; · iexact Ha
  isplitl [Hp]; · iexact Hp
  isplitl [Ho]
  · isplitl [Ho]; · iexact Ho
    iempintro
  isplitl [Hc]; · iexact Hc
  iexact HO

theorem reg_post (c : Dev nD) : (reg m).post c ⊢ iprop(StableHlo.held (c : Thread nD τ) (Pipeline.ucRefs τ sig) (V2 m (outs m) c) ∗ riding m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) (others (F := F)) (V2 m (outs m) c) ∗ emp) ∗ semVal (barCell c) 0
    ∗ ∃ Wd, owes (c : Thread nD τ) (0 : CellTallies nD τ sig ℕ) Wd) ⊢ _
  rw [split_bufs]
  unfold riding
  iintro ⟨Ha, -, ⟨Ho, -⟩, Hb, HO⟩
  isplitl [Ha Ho]; · isplitl [Ha] <;> iassumption
  isplitl [Hb]; · iexact Hb
  iexact HO

/-! ## The launch -/

def u₀ : UU :=
  (initOf (Pipeline.cells cfgs cellOf_inj) (Pipeline.launchToks cfgs cellOf_inj), launchOf barCells scCells toks)

/-- The ghost launch element, kept by device 0 until the launch. -/
def parked (c : Dev nD) : sProp 𝕄 := if c = 0 then BI.own (ER (launchOf barCells scCells toks)) else iprop(emp)
theorem parked_all : bigSep Finset.univ (parked (F := F)) = BI.own (ER (launchOf barCells scCells toks)) := by
  rw [part (Finset.mem_univ (0 : Dev nD)) (parked (F := F)), bigSep_congr (s := Finset.univ.erase (0 : Dev nD)) (Ψ := fun _ => (BI.emp : sProp 𝕄))
      fun c hc => by unfold parked; rw [if_neg (Finset.ne_of_mem_erase hc)]; rfl, BI.bigSep_emp_const]
  unfold parked
  rw [if_pos rfl]
  exact BI.equiv_iff.mp sep_emp

theorem sems_eq (c : Dev nD) : (unscopedSems0 c : sProp 𝕄) = semVal (barCell c) 0 := by
  unfold unscopedSems0
  rw [show (Finset.univ.filter fun sm : SemLoc sig => ¬ sm.isScoped .tc) = {SemLoc.reg barS.sem} from by decide, BI.bigSep_singleton]

def given (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked (F := F) c)
def kept (c : Dev nD) : sProp 𝕄 :=
  iprop(StableHlo.held (c : Thread nD τ) (Pipeline.ucRefs τ sig) (V0 m c) ∗ owes (c : Thread nD τ) (O₀ c) ∅ ∗ Pipeline.launchCred O₀ c ∗ ∃ r, prngReg c r)
def first (c : Dev nD) : sProp 𝕄 := iprop(StableHlo.held (c : Thread nD τ) (Pipeline.ucRefs τ sig) (V0 m c) ∗ riding m 0 c)

theorem given_kept (c : Dev nD) : given m ρ c ⊢ iprop(kept m c ∗ semVal (barCell c) 0 ∗ parked (F := F) c) := by
  unfold given kept
  rw [show (unscopedBufs c (fun b => m ((c : Thread nD τ).loc b)) : sProp 𝕄) = StableHlo.held (c : Thread nD τ) (Pipeline.ucRefs τ sig) (V0 m c)
    from Pipeline.unscopedBufs_held c (V0 m c), sems_eq]
  iintro ⟨Hh, Hs, HO, Hc, Hp, Hg⟩
  isplitr [Hs Hg]
  · isplitl [Hh]; · iexact Hh
    isplitl [HO]; · iexact HO
    isplitl [Hc]; · iexact Hc
    iexists (ρ c); iexact Hp
  isplitl [Hs] <;> iassumption

theorem first_intro (K : GSem nD τ sig → ℕ) (c : Dev nD) : iprop(records (part₀ m) K ∗ (dealt (F := F) c ∗ kept m c)) ⊢ first m c := by
  unfold first kept riding
  iintro ⟨#HR, Hd, Hh, HO, Hc, Hp⟩
  isplitl [Hh]; · iexact Hh
  isplitl [Hd Hc]
  · iapply (carry_intro (part₀ m) K c)
    isplitr; · iexact HR
    isplitl [Hd] <;> iassumption
  isplitl [Hp]; · iexact Hp
  iexists ∅; iexact HO

theorem given_all : bigSep Finset.univ (given m ρ) ⊢ iprop(bigSep Finset.univ (kept m) ∗ (bigSep Finset.univ fun c : Dev nD => semVal (barCell c) 0)
    ∗ BI.own (ER (launchOf barCells scCells toks))) := by
  rw [← parked_all, ← bigSep_sep', ← bigSep_sep']
  exact bigSep_mono fun c _ => given_kept m ρ c

theorem launch : iprop(bigSep Finset.univ (given m ρ) ∗ levAts L lv) ⊢ (|={Set.univ}=> bigSep Finset.univ (first m) : sProp 𝕄) := by
  iintro ⟨H, -⟩
  ihave H := (given_all m ρ) $$ H
  icases H with ⟨Hk, Hv, Hu⟩
  imod (fund (part₀ m)) $$ [Hv Hu] with ⟨%K, #HR, Hd⟩
  · isplitl [Hv] <;> iassumption
  imodintro
  iapply (bigSep_with_persistent (R := records (part₀ m) K) (Φ := fun c => iprop(dealt (F := F) c ∗ kept m c)) fun c _ => first_intro m K c)
  isplitr; · iexact HR
  iapply (Entails.of_eq (bigSep_sep' Finset.univ (dealt (F := F)) (kept m)).symm)
  isplitl [Hd] <;> iassumption

/-! ## The run -/

theorem only_bar : ∀ sm : SemLoc sig, sm.isScoped .tc = false → sm = .reg barS.sem := by decide

def last (c : Dev nD) : sProp 𝕄 := iprop(StableHlo.held (c : Thread nD τ) (Pipeline.ucRefs τ sig) (V3 m (outs m) c) ∗ semVal (barCell c) 0)

/-- What is read of a device at the end. -/
def Read (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v21) = V3 m (outs m) c (Proc.devRef .tc main_v21))
  ∧ s.sem (barCell c) = 0

theorem read_last (c : Dev nD) (s' : Phys nD τ sig (Elt F)) : iprop(last m c ∗ SI s') ⊢ (|={Set.univ}=> iprop(⌜Read m c s'.mem⌝ ∗ SI s') : sProp 𝕄) := by
  unfold last StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V3_main_arg0 m (outs m) c),
      (h (Proc.devRef .tc main_arg1) (Finset.mem_filter.mpr ⟨StableHlo.devRef_mem_tcRefs main_arg1, by decide⟩)).trans (V3_main_arg1 m (outs m) c),
      (h (Proc.devRef .tc main_arg2) (Finset.mem_filter.mpr ⟨StableHlo.devRef_mem_tcRefs main_arg2, by decide⟩)).trans (V3_main_arg2 m (outs m) c),
      (h (Proc.devRef .tc main_arg3) (Finset.mem_filter.mpr ⟨StableHlo.devRef_mem_tcRefs main_arg3, by decide⟩)).trans (V3_main_arg3 m (outs m) c),
      (h (Proc.devRef .tc main_arg4) (Finset.mem_filter.mpr ⟨StableHlo.devRef_mem_tcRefs main_arg4, by decide⟩)).trans (V3_main_arg4 m (outs m) c),
      h (Proc.devRef .tc main_v21) (Finset.mem_filter.mpr ⟨StableHlo.devRef_mem_tcRefs main_v21, by decide⟩)⟩,
      by simpa using hb⟩
  · iexact HSI

set_option backward.isDefEq.respectTransparency.types false in
theorem run : θ_run defs (onTc (τ := τ) (main (F := F))) ⟨m, fun _ => 0, ρ⟩ (fun r => (∀ c : Dev nD, Read m c r.2) ∧ r.2.sem = fun _ => 0) := by
  refine Pipeline.θ_run_regions_kit_dev_sems (pcfgs (F := F)) adm (pdats m) 0 cellOf_inj EP defs₀ 𝒱₀ L lv m ρ main
    (segs m (outs m) 𝒱₀ L lv (riding m) 0 (pdats m) (reg m))
    (fun c Q => by
      rewrite [main_chain c, Seg.run_eq_chain,
        show (segs m (outs m) 𝒱₀ L lv (riding m) 0 (pdats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide) O₀ L_of_ne (parked (F := F)) u₀
    (by
      unfold u₀
      iintro Hu
      ihave H := (ownU_pair _ _) $$ Hu
      icases H with ⟨HP, HX⟩
      imodintro
      isplitl [HP]; · iexact HP
      rw [parked_all]; iexact HX)
    (first m) (last m)
    (fun c => ⟨.rfl, reg_pre m c, reg_post m c, ?_⟩)
    (launch m ρ) (Read m) (read_last m)
    (fun s h hs => ⟨h, sem_eq_zero hs fun c sm hsm => by
      obtain rfl := only_bar sm hsm
      exact (h c).2⟩)
  show iprop(StableHlo.held (c : Thread nD τ) (Pipeline.ucRefs τ sig) (V3 m (outs m) c)
      ∗ (semVal (barCell c) 0 ∗ ∃ W, owes (c : Thread nD τ) (0 : CellTallies nD τ sig ℕ) W))
    ⊢ iprop(last m c ∗ ∃ W, owes (c : Thread nD τ) (0 : CellTallies nD τ sig ℕ) W)
  unfold last
  iintro ⟨Hh, Hb, HO⟩
  isplitr [HO]
  · isplitl [Hh] <;> iassumption
  · iexact HO

end Cert.KernelIdeal.Ring

end
-- ==== Proof.KernelIdeal.Soft.lean ====
/-
  One row of the attention over the extended reals: the maximum, the weights, their sum and the weighted mean, over all keys
  and over a window together with the first keys.
-/
module

public import Idealize.ShloMosaic.PureOps.Ideal

@[expose] public section

noncomputable section

namespace Cert.Soft

open Idealize.ShloMosaic

variable {κ : Type} [Fintype κ]

/-- The largest score of a row. -/
def top (t : κ → EReal) : EReal := Finset.univ.sup t
/-- The weights of a row. -/
def wt (t : κ → EReal) (k : κ) : EReal := Ideal.exp (t k - top t)
/-- The sum of the weights. -/
def den (t : κ → EReal) : EReal := ∑ k, wt t k
/-- The weighted mean of the values `v`. -/
def mean (t v : κ → EReal) : EReal := Ideal.div (∑ k, wt t k * v k) (den t)

theorem fold_max (t : κ → EReal) : Finset.univ.fold max ⊥ t = top t := rfl

theorem wt_bot (t : κ → EReal) (k : κ) (h : t k = ⊥) : wt t k = 0 := by
  unfold wt
  rw [h, EReal.bot_sub]
  rfl

/-! ## Over a window and the first keys -/

section Split

variable {α β : Type} [Fintype α] [Fintype β] (e₁ : α → κ) (e₂ : β → κ)
  (h₁ : Function.Injective e₁) (h₂ : Function.Injective e₂) (hd : ∀ a b, e₁ a ≠ e₂ b)

include h₁ h₂ hd

theorem sum_split (f : κ → EReal) (hf : ∀ k, (∀ a, e₁ a ≠ k) → (∀ b, e₂ b ≠ k) → f k = 0) :
    ∑ a, f (e₁ a) + ∑ b, f (e₂ b) = ∑ k, f k := by
  rw [← Fintype.sum_of_injective (Sum.elim e₁ e₂) (h₁.sumElim h₂ hd) (fun i => f (Sum.elim e₁ e₂ i)) f ?_ (fun _ => rfl),
    Fintype.sum_sum_type]
  · rfl
  · intro k hk
    exact hf k (fun a e => hk ⟨.inl a, e⟩) (fun b e => hk ⟨.inr b, e⟩)

variable (t v : κ → EReal) (ht : ∀ k, (∀ a, e₁ a ≠ k) → (∀ b, e₂ b ≠ k) → t k = ⊥)

include ht

omit h₁ h₂ hd in
theorem top_split : max (top fun a => t (e₁ a)) (top fun b => t (e₂ b)) = top t := by
  classical
  apply le_antisymm
  · refine max_le (Finset.sup_le fun a _ => ?_) (Finset.sup_le fun b _ => ?_)
    · exact Finset.le_sup (f := t) (Finset.mem_univ (e₁ a))
    · exact Finset.le_sup (f := t) (Finset.mem_univ (e₂ b))
  · refine Finset.sup_le fun k _ => ?_
    by_cases ha : ∃ a, e₁ a = k
    · obtain ⟨a, rfl⟩ := ha
      exact le_max_of_le_left (Finset.le_sup (f := fun a => t (e₁ a)) (Finset.mem_univ a))
    · by_cases hb : ∃ b, e₂ b = k
      · obtain ⟨b, rfl⟩ := hb
        exact le_max_of_le_right (Finset.le_sup (f := fun b => t (e₂ b)) (Finset.mem_univ b))
      · rw [ht k (fun a e => ha ⟨a, e⟩) (fun b e => hb ⟨b, e⟩)]
        exact bot_le

theorem den_split : ∑ a, Ideal.exp (t (e₁ a) - top t) + ∑ b, Ideal.exp (t (e₂ b) - top t) = den t :=
  sum_split e₁ e₂ h₁ h₂ hd (wt t) fun k ha hb => wt_bot t k (ht k ha hb)

theorem num_split : ∑ a, Ideal.exp (t (e₁ a) - top t) * v (e₁ a) + ∑ b, Ideal.exp (t (e₂ b) - top t) * v (e₂ b)
    = ∑ k, wt t k * v k :=
  sum_split e₁ e₂ h₁ h₂ hd (fun k => wt t k * v k) fun k ha hb => by
    show wt t k * v k = 0
    rw [wt_bot t k (ht k ha hb), zero_mul]

end Split

/-! ## Rows of real scores -/

/-- A real number among the extended reals. -/
def Real' (x : EReal) : Prop := ∃ r : ℝ, x = r

theorem Real'.add {x y : EReal} : Real' x → Real' y → Real' (x + y)
  | ⟨a, ha⟩, ⟨b, hb⟩ => ⟨a + b, by rw [ha, hb, EReal.coe_add]⟩
theorem Real'.mul {x y : EReal} : Real' x → Real' y → Real' (x * y)
  | ⟨a, ha⟩, ⟨b, hb⟩ => ⟨a * b, by rw [ha, hb, EReal.coe_mul]⟩
theorem Real'.sum {ι : Type} (s : Finset ι) (f : ι → EReal) (h : ∀ i, Real' (f i)) : Real' (∑ i ∈ s, f i) := by
  classical
  induction s using Finset.induction with
  | empty => exact ⟨0, by simp⟩
  | insert a s ha ih => rw [Finset.sum_insert ha]; exact (h a).add ih
theorem Real'.of_abs {x : EReal} (h : max x (-x) < ⊤) : Real' x := by
  induction x with
  | bot => exact absurd (lt_of_le_of_lt (le_max_right _ _) h) (by simp)
  | coe r => exact ⟨r, rfl⟩
  | top => exact absurd (lt_of_le_of_lt (le_max_left _ _) h) (by simp)

theorem sum_mul_coe {ι : Type} (s : Finset ι) (f : ι → EReal) {r : ℝ} (hr : 0 ≤ r) :
    (∑ i ∈ s, f i) * (r : EReal) = ∑ i ∈ s, f i * (r : EReal) := by
  classical
  induction s using Finset.induction with
  | empty => simp
  | insert a s ha ih =>
    rw [Finset.sum_insert ha, Finset.sum_insert ha, EReal.right_distrib_of_nonneg_of_ne_top (by exact_mod_cast hr) (EReal.coe_ne_top r), ih]

section Row

variable (t v : κ → EReal) (ht : ∀ k, t k = ⊥ ∨ Real' (t k)) (k₀ : κ) (hk : Real' (t k₀))

include ht hk

theorem top_real : Real' (top t) := by
  have h1 : top t ≠ ⊥ := by
    obtain ⟨r, hr⟩ := hk
    have : t k₀ ≤ top t := Finset.le_sup (f := t) (Finset.mem_univ k₀)
    intro e
    rw [e, hr] at this
    exact absurd this (by simp)
  have h2 : top t ≠ ⊤ := by
    have : top t < ⊤ := by
      unfold top
      rw [Finset.sup_lt_iff (by simp)]
      intro k _
      rcases ht k with h | ⟨r, h⟩
      · rw [h]; simp
      · rw [h]; exact EReal.coe_lt_top r
    exact this.ne
  exact ⟨(top t).toReal, (EReal.coe_toReal h2 h1).symm⟩

theorem wt_real (k : κ) : ∃ r : ℝ, 0 ≤ r ∧ wt t k = r := by
  obtain ⟨M, hM⟩ := top_real t ht k₀ hk
  rcases ht k with h | ⟨r, h⟩
  · exact ⟨0, le_rfl, by rw [wt_bot t k h]; rfl⟩
  · refine ⟨Real.exp (r - M), (Real.exp_pos _).le, ?_⟩
    unfold wt
    rw [hM, h, ← EReal.coe_sub]
    rfl

/-- The sum of the weights of a row that has a real score is a positive real. -/
theorem den_real : ∃ r : ℝ, 0 < r ∧ den t = r := by
  choose r hr hw using wt_real t ht k₀ hk
  refine ⟨∑ k, r k, ?_, ?_⟩
  · refine Finset.sum_pos' (fun k _ => hr k) ⟨k₀, Finset.mem_univ _, ?_⟩
    refine lt_of_le_of_ne (hr k₀) fun e => ?_
    obtain ⟨M, hM⟩ := top_real t ht k₀ hk
    obtain ⟨s, hs⟩ := hk
    have h := hw k₀
    rw [← e] at h
    unfold wt at h
    rw [hM, hs, ← EReal.coe_sub] at h
    have h' : ((Real.exp (s - M) : ℝ) : EReal) = ((0 : ℝ) : EReal) := h
    exact (Real.exp_pos (s - M)).ne' (EReal.coe_eq_coe_iff.mp h')
  · unfold den
    rw [Finset.sum_congr rfl fun k _ => hw k]
    classical
    have : ∀ s : Finset κ, (∑ k ∈ s, (r k : EReal)) = ((∑ k ∈ s, r k : ℝ) : EReal) := by
      intro s
      induction s using Finset.induction with
      | empty => simp
      | insert a s ha ih => rw [Finset.sum_insert ha, Finset.sum_insert ha, ih, EReal.coe_add]
    exact this _

/-- Dividing each weight first gives the same mean. -/
theorem mean_eq : ∑ k, v k * Ideal.div (wt t k) (den t) = mean t v := by
  obtain ⟨r, hr, hd⟩ := den_real t ht k₀ hk
  have h0 : den t ≠ 0 := by
    rw [hd]; exact_mod_cast hr.ne'
  have hdiv : ∀ x, Ideal.div x (den t) = x * ((r⁻¹ : ℝ) : EReal) := by
    intro x
    unfold Ideal.div
    rw [if_neg h0, hd, EReal.coe_inv]
  unfold mean
  rw [hdiv, sum_mul_coe _ _ (inv_nonneg.mpr hr.le)]
  refine Finset.sum_congr rfl fun k _ => ?_
  rw [hdiv, ← mul_assoc, mul_comm (v k)]

end Row

end Cert.Soft

end
-- ==== Proof.Value.Finite.lean ====
/-
  What the precondition says: every element of the activations, of the query projection and of the keys is a real
  number.
-/
module

public import proofs.«01_k».proof.Pre_finite_KernelIdeal
public import proofs.«01_k».proof.Proof.KernelIdeal.Soft
public import Idealize.ShloMosaic.Lib.Pointwise
public import Idealize.ShloMosaic.Lib.ReduceAll

@[expose] public section

set_option maxRecDepth 16384

noncomputable section

namespace Cert.Finite

open Idealize.ShloMosaic
open Cert.Pre_finite_KernelIdeal Cert.Pre_finite_KernelIdeal.Facts
open Cert.Soft

instance facts : Cert.Pre_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x128x128 := by decide
  reducesTo_S1x2048x128x128_S_d0_1_2_3 := by decide

theorem pos_inf : Ideal.ofBits .f32 0x7F800000#32 = ⊤ := by simp [Ideal.ofBits, Ideal.ieee]

theorem andi_word (a b : BitVec 1) : IntOp.andi a b = 1#1 ↔ a = 1#1 ∧ b = 1#1 := by
  revert a b; decide

/-- A value whose absolute value compares less than +∞ is real. -/
theorem real_of_cmp {s : Shape} (x : FVec Ideal s .f32) (h : S_.BroadcastsInDim s (![] : Fin 0 → Fin s.rank)) (i : s.Idx)
    (e : cmpf (F := Ideal) .olt (Host.absf x) (broadcastInDim s ![] h (constant S_ .f32 0x7F800000#32)) i = 1#1) : Real' (x i) := by
  have e' : Ideal.cmp .olt (max (x i : EReal) (-(x i : EReal))) (Ideal.ofBits .f32 0x7F800000#32) = 1#1 := e
  rw [pos_inf] at e'
  apply Real'.of_abs
  by_contra hn
  revert e'
  simp [Ideal.cmp, hn]

theorem first_idx (j : S_.Idx) : Subsingleton S_.Idx := ⟨fun a b => funext fun k => k.elim0⟩

variable (x : FVec Ideal S1x2048x1024 .f32) (wq : FVec Ideal S1024x1024 .f32) (k v : FVec Ideal S1x2048x128x128 .f32)
  (wo : FVec Ideal S1024x1024 .f32)

theorem all_real (h : fn (F := Ideal) x wq k v wo = fun _ => 1#1) :
    (∀ i, Real' (x i)) ∧ (∀ i, Real' (wq i)) ∧ ∀ i, Real' (k i) := by
  have hj := congrFun h (fun a => a.elim0)
  dsimp only [fn] at hj
  have h1 := (andi_word _ _).mp hj
  have h2 := (andi_word _ _).mp h1.1
  haveI : Subsingleton S_.Idx := first_idx fun a => a.elim0
  exact ⟨fun i => real_of_cmp x _ i (Host.reduce_andi_all _ _ _ _ _ h2.1 i),
    fun i => real_of_cmp wq _ i (Host.reduce_andi_all _ _ _ _ _ h2.2 i),
    fun i => real_of_cmp k _ i (Host.reduce_andi_all _ _ _ _ _ h1.2 i)⟩

end Cert.Finite

end
-- ==== Proof.KernelIdeal.Mask.lean ====
/-
  Which keys a query may attend to, read from the integer words that the masks are computed in.
-/
module

public import Idealize.ShloMosaic.Lib.Pointwise
public import Idealize.ShloMosaic.Lib.Affine

@[expose] public section

namespace Cert.Mask

open Idealize.ShloMosaic

/-- Near the diagonal. -/
def Near (i k : ℕ) : Prop := i ≤ k + 128 ∧ k ≤ i + 128
/-- Query `i` attends to key `k`. -/
def Sees (i k : ℕ) : Prop := Near i k ∨ k < 32 ∨ i < 32

instance (i k : ℕ) : Decidable (Near i k) := inferInstanceAs (Decidable (_ ∧ _))
instance (i k : ℕ) : Decidable (Sees i k) := inferInstanceAs (Decidable (_ ∨ _))

theorem toInt_small {i : ℕ} (h : i < 4096) : (BitVec.ofNat 32 i).toInt = i := by
  have e : (BitVec.ofNat 32 i).toNat = i := by rw [BitVec.toNat_ofNat, Nat.mod_eq_of_lt (by omega)]
  rw [BitVec.toInt_eq_toNat_of_lt (by rw [e]; omega), e]

theorem near_word {i k : ℕ} (hi : i < 4096) (hk : k < 4096) :
    IntOp.cmpi .sle (IntOp.absi (IntOp.subi (BitVec.ofNat 32 i) (BitVec.ofNat 32 k))) 128#32 = 1#1 ↔ Near i k := by
  rw [IntOp.cmpi_sle]
  have e : (IntOp.subi (BitVec.ofNat 32 i) (BitVec.ofNat 32 k)).toInt = (i : ℤ) - k := by
    unfold IntOp.subi
    rw [BitVec.toInt_sub, toInt_small hi, toInt_small hk, Int.bmod_eq_of_le] <;> omega
  have e' : (IntOp.absi (IntOp.subi (BitVec.ofNat 32 i) (BitVec.ofNat 32 k))).toInt = |(i : ℤ) - k| := by
    unfold IntOp.absi
    have hm := BitVec.msb_eq_toInt (x := IntOp.subi (BitVec.ofNat 32 i) (BitVec.ofNat 32 k))
    rw [e] at hm
    rw [hm]
    by_cases h : (i : ℤ) - k < 0
    · rw [if_pos (by simpa using h), BitVec.toInt_neg, e, abs_of_neg h, Int.bmod_eq_of_le] <;> omega
    · rw [if_neg (by simpa using h), e, abs_of_nonneg (by omega)]
  rw [e', show (128#32 : BitVec 32).toInt = 128 from by decide, abs_le]
  unfold Near
  omega

theorem first_word {k : ℕ} (hk : k < 4096) : IntOp.cmpi .slt (BitVec.ofNat 32 k) 32#32 = 1#1 ↔ k < 32 := by
  rw [IntOp.cmpi_slt, toInt_small hk, show (32#32 : BitVec 32).toInt = 32 from by decide]
  omega

theorem ori_word (a b : BitVec 1) : IntOp.ori a b = 1#1 ↔ a = 1#1 ∨ b = 1#1 := by
  revert a b; decide

theorem sees_word {i k : ℕ} (hi : i < 4096) (hk : k < 4096) :
    IntOp.ori (IntOp.ori (IntOp.cmpi .sle (IntOp.absi (IntOp.subi (BitVec.ofNat 32 i) (BitVec.ofNat 32 k))) 128#32)
      (IntOp.cmpi .slt (BitVec.ofNat 32 k) 32#32)) (IntOp.cmpi .slt (BitVec.ofNat 32 i) 32#32) = 1#1 ↔ Sees i k := by
  rw [ori_word, ori_word, near_word hi hk, first_word hk, first_word hi]
  exact or_assoc

theorem sees_word' {i k : ℕ} (hi : i < 4096) (hk : k < 4096) :
    IntOp.ori (IntOp.cmpi .sle (IntOp.absi (IntOp.subi (BitVec.ofNat 32 i) (BitVec.ofNat 32 k))) 128#32)
      (IntOp.ori (IntOp.cmpi .slt (BitVec.ofNat 32 k) 32#32) (IntOp.cmpi .slt (BitVec.ofNat 32 i) 32#32)) = 1#1 ↔ Sees i k := by
  rw [ori_word, ori_word, near_word hi hk, first_word hk, first_word hi]
  exact Iff.rfl

theorem select_iff {α : Type} {c : BitVec 1} {p : Prop} [Decidable p] (h : c = 1#1 ↔ p) (a b : α) :
    Scalar.select c a b = if p then a else b := by
  unfold Scalar.select
  by_cases hp : p
  · rw [if_pos hp, if_pos (show c = 1 from h.mpr hp)]
  · rw [if_neg hp, if_neg (show ¬ c = 1 from fun e => hp (h.mp e))]

theorem add_word (a b : ℕ) : IntOp.addi (BitVec.ofNat 32 a) (BitVec.ofNat 32 b) = BitVec.ofNat 32 (a + b) :=
  (BitVec.ofNat_add a b).symm

end Cert.Mask

end
-- ==== Proof.KernelIdeal.Local.lean ====
/-
  The local attention at an index.
-/
module

public import proofs.«01_k».proof.Proof.KernelIdeal.Attn
public import proofs.«01_k».proof.Proof.KernelIdeal.Soft
public import proofs.«01_k».proof.Proof.KernelIdeal.Mask

@[expose] public section

set_option maxRecDepth 16384

noncomputable section

namespace Cert.KernelIdeal.Ring

open Idealize.ShloMosaic Idealize.ShloMosaic.TcCoe
open Cert.KernelIdeal.Gen
open Cert.Soft Cert.Mask

/-- The factor of the scores. -/
abbrev factor : EReal := Ideal.ofBits .f32 0x3DB504F3#32

theorem neg_inf : Ideal.ofBits .f32 0xFF800000#32 = ⊥ := by simp [Ideal.ofBits, Ideal.ieee]

theorem mask_value : Named.named (F := Ideal) (φ := .f32) κ "mask" 0xCE6E6B28#32 = (⊥ : EReal) :=
  IdealRules.named_const.ideal_named_scalar κ "mask" _ ⊥ rfl

/-! ## The pieces of a head at an index -/

/-- What the pieces of a head are at an index, at one width. -/
structure Reads {n : ℕ} (W : Width n) : Prop where
  score : ∀ (q : FVec Ideal S512x128 .f32) (b : FVec Ideal ⟨2, ![512, n]⟩ .f32) (k : Vec Ideal ⟨3, ![1, n, 128]⟩ .f32) (i : Fin 512) (c : Fin n),
    score W q b k (ix2 i c) = (∑ x : Fin 128, q (ix2 i x) * k (ix3 0 c x)) * factor + b (ix2 i c)
  top : ∀ (s : FVec Ideal ⟨2, ![512, n]⟩ .f32) (i : Fin 512), rowMax W s (ix2 i 0) = top fun c : Fin n => s (ix2 i c)
  sum : ∀ (s : FVec Ideal ⟨2, ![512, n]⟩ .f32) (i : Fin 512), rowSum W s (ix2 i 0) = ∑ c : Fin n, s (ix2 i c)
  wt : ∀ (s : FVec Ideal ⟨2, ![512, n]⟩ .f32) (m : FVec Ideal S512x1 .f32) (i : Fin 512) (c : Fin n),
    weights W s m (ix2 i c) = Ideal.exp (s (ix2 i c) - m (ix2 i 0))
  attend : ∀ (s : FVec Ideal ⟨2, ![512, n]⟩ .f32) (v : Vec Ideal ⟨3, ![1, n, 128]⟩ .f32) (i : Fin 512) (x : Fin 128),
    attend W s v (ix2 i x) = ∑ c : Fin n, s (ix2 i c) * v (ix3 0 c x)

theorem reads2048 : Reads w2048 where
  score q b k i c := by unfold Ring.score w2048; pointwise
  top s i := by unfold rowMax w2048; pointwise; rw [neg_inf]; rfl
  sum s i := by unfold rowSum w2048; pointwise
  wt s m i c := by unfold weights w2048; pointwise
  attend s v i x := by unfold Ring.attend w2048; pointwise
theorem reads768 : Reads w768 where
  score q b k i c := by unfold Ring.score w768; pointwise
  top s i := by unfold rowMax w768; pointwise; rw [neg_inf]; rfl
  sum s i := by unfold rowSum w768; pointwise
  wt s m i c := by unfold weights w768; pointwise
  attend s v i x := by unfold Ring.attend w768; pointwise
theorem reads640 : Reads w640 where
  score q b k i c := by unfold Ring.score w640; pointwise
  top s i := by unfold rowMax w640; pointwise; rw [neg_inf]; rfl
  sum s i := by unfold rowSum w640; pointwise
  wt s m i c := by unfold weights w640; pointwise
  attend s v i x := by unfold Ring.attend w640; pointwise
theorem reads128 : Reads w128 where
  score q b k i c := by unfold Ring.score w128; pointwise
  top s i := by unfold rowMax w128; pointwise; rw [neg_inf]; rfl
  sum s i := by unfold rowSum w128; pointwise
  wt s m i c := by unfold weights w128; pointwise
  attend s v i x := by unfold Ring.attend w128; pointwise

theorem project_apply (acc : FVec Ideal S512x1024 .f32) (ctx : FVec Ideal S512x128 .f32) (d : FVec Ideal S512x1 .f32)
    (wo : Vec Ideal S128x1024 .f32) (i : Fin 512) (o : Fin 1024) :
    project acc ctx d wo (ix2 i o) = acc (ix2 i o) + ∑ x : Fin 128, Ideal.div (ctx (ix2 i x)) (d (ix2 i 0)) * wo (ix2 x o) := by
  unfold project; pointwise

/-! ## A head at an index -/

theorem headAll_apply (acc : FVec Ideal S512x1024 .f32) (q : FVec Ideal S512x128 .f32) (b : FVec Ideal S512x2048 .f32)
    (k v : Vec Ideal S1x2048x128 .f32) (wo : Vec Ideal S128x1024 .f32) (i : Fin 512) (o : Fin 1024)
    (t : Fin 2048 → EReal) (u : Fin 128 → Fin 2048 → EReal)
    (hs : ∀ c, score w2048 q b k (ix2 i c) = t c) (hv : ∀ c x, v (ix3 0 c x) = u x c) :
    headAll acc q b k v wo (ix2 i o) = acc (ix2 i o) + ∑ x : Fin 128, mean t (u x) * wo (ix2 x o) := by
  have hm : rowMax w2048 (score w2048 q b k) (ix2 i 0) = top t := by
    rw [reads2048.top]; exact congrArg top (funext hs)
  have hw : ∀ c, weights w2048 (score w2048 q b k) (rowMax w2048 (score w2048 q b k)) (ix2 i c) = wt t c := fun c => by
    rw [reads2048.wt, hm, hs]; rfl
  unfold headAll
  rw [project_apply]
  refine Ideal.add_congr rfl (Finset.sum_congr rfl fun x _ => Ideal.mul_congr ?_ rfl)
  refine congrArg₂ Ideal.div ?_ ?_
  · rw [reads2048.attend]
    exact Finset.sum_congr rfl fun c _ => Ideal.mul_congr (hw c) (hv c x)
  · rw [reads2048.sum]
    exact Finset.sum_congr rfl fun c _ => hw c

theorem headWin_apply {n : ℕ} (W : Width n) (R : Reads W) (acc : FVec Ideal S512x1024 .f32) (q : FVec Ideal S512x128 .f32)
    (bw : FVec Ideal ⟨2, ![512, n]⟩ .f32) (bg : FVec Ideal S512x128 .f32) (kw : Vec Ideal ⟨3, ![1, n, 128]⟩ .f32) (kg : Vec Ideal S1x128x128 .f32)
    (vw : Vec Ideal ⟨3, ![1, n, 128]⟩ .f32) (vg : Vec Ideal S1x128x128 .f32) (wo : Vec Ideal S128x1024 .f32) (i : Fin 512) (o : Fin 1024)
    (t : Fin 2048 → EReal) (u : Fin 128 → Fin 2048 → EReal) (e₁ : Fin n → Fin 2048) (e₂ : Fin 128 → Fin 2048)
    (h₁ : Function.Injective e₁) (h₂ : Function.Injective e₂) (hd : ∀ a b, e₁ a ≠ e₂ b)
    (ht : ∀ k, (∀ a, e₁ a ≠ k) → (∀ b, e₂ b ≠ k) → t k = ⊥)
    (hsw : ∀ c, score W q bw kw (ix2 i c) = t (e₁ c)) (hsg : ∀ c, score w128 q bg kg (ix2 i c) = t (e₂ c))
    (hvw : ∀ c x, vw (ix3 0 c x) = u x (e₁ c)) (hvg : ∀ c x, vg (ix3 0 c x) = u x (e₂ c)) :
    headWin W acc q bw bg kw kg vw vg wo (ix2 i o) = acc (ix2 i o) + ∑ x : Fin 128, mean t (u x) * wo (ix2 x o) := by
  have hm : winMax W q bw bg kw kg (ix2 i 0) = top t := by
    show max (rowMax W (score W q bw kw) (ix2 i 0)) (rowMax w128 (score w128 q bg kg) (ix2 i 0)) = _
    rw [R.top, reads128.top, ← top_split e₁ e₂ t ht]
    exact congrArg₂ max (congrArg top (funext hsw)) (congrArg top (funext hsg))
  have hw : ∀ c, weights W (score W q bw kw) (winMax W q bw bg kw kg) (ix2 i c) = Ideal.exp (t (e₁ c) - top t) := fun c => by
    rw [R.wt, hm, hsw]
  have hg : ∀ c, weights w128 (score w128 q bg kg) (winMax W q bw bg kw kg) (ix2 i c) = Ideal.exp (t (e₂ c) - top t) := fun c => by
    rw [reads128.wt, hm, hsg]
  unfold headWin
  rw [project_apply]
  refine Ideal.add_congr rfl (Finset.sum_congr rfl fun x _ => Ideal.mul_congr ?_ rfl)
  refine congrArg₂ Ideal.div ?_ ?_
  · rw [← num_split e₁ e₂ h₁ h₂ hd t (u x) ht]
    show attend W _ vw (ix2 i x) + attend w128 _ vg (ix2 i x) = _
    rw [R.attend, reads128.attend]
    exact Ideal.add_congr (Finset.sum_congr rfl fun c _ => Ideal.mul_congr (hw c) (hvw c x))
      (Finset.sum_congr rfl fun c _ => Ideal.mul_congr (hg c) (hvg c x))
  · rw [← den_split e₁ e₂ h₁ h₂ hd t ht]
    show rowSum W _ (ix2 i 0) + rowSum w128 _ (ix2 i 0) = _
    rw [R.sum, reads128.sum]
    exact Ideal.add_congr (Finset.sum_congr rfl fun c _ => hw c) (Finset.sum_congr rfl fun c _ => hg c)

/-! ## The masks -/

theorem biasAll_apply (i : Fin 512) (c : Fin 2048) : biasAll (F := Ideal) (ix2 i c) = if Sees i c then 0 else ⊥ := by
  unfold biasAll k0_pay4 k0_pay3
  pointwise
  rw [mask_value]
  exact select_iff (sees_word (by omega) (by omega)) _ _

theorem near_bias (i : Fin 512) (c a b : ℕ) (hc : c < 1024) (ha : a < 2048) (hb : b < 2048) :
    Scalar.select (IntOp.cmpi .sle (IntOp.absi (IntOp.subi (IntOp.addi (BitVec.ofNat 32 i) (BitVec.ofNat 32 a))
      (IntOp.addi (BitVec.ofNat 32 c) (BitVec.ofNat 32 b)))) 128#32) (0 : EReal) ⊥ = if Near (a + i) (b + c) then 0 else ⊥ := by
  rw [add_word, add_word]
  refine select_iff ?_ _ _
  rw [near_word (by omega) (by omega), Nat.add_comm a, Nat.add_comm b]

theorem bias1_apply (i : Fin 512) (c : Fin 768) : k0_pay18 (F := Ideal) (ix2 i c) = if Near (512 + i) (384 + c) then 0 else ⊥ := by
  unfold k0_pay18
  pointwise
  rw [mask_value]
  exact near_bias i c 512 384 (by omega) (by omega) (by omega)
theorem bias2_apply (i : Fin 512) (c : Fin 768) : k0_pay71 (F := Ideal) (ix2 i c) = if Near (1024 + i) (896 + c) then 0 else ⊥ := by
  unfold k0_pay71
  pointwise
  rw [mask_value]
  exact near_bias i c 1024 896 (by omega) (by omega) (by omega)
theorem bias3_apply (i : Fin 512) (c : Fin 640) : k0_pay124 (F := Ideal) (ix2 i c) = if Near (1536 + i) (1408 + c) then 0 else ⊥ := by
  unfold k0_pay124
  pointwise
  rw [mask_value]
  exact near_bias i c 1536 1408 (by omega) (by omega) (by omega)
theorem biasG_apply (i : Fin 512) (c : Fin 128) : k0_pay19 (F := Ideal) (ix2 i c) = if (c : ℕ) < 32 then 0 else ⊥ := by
  unfold k0_pay19
  pointwise
  rw [mask_value]
  exact select_iff (first_word (by omega)) _ _

end Cert.KernelIdeal.Ring

end
-- ==== Proof.KernelIdeal.LocalOut.lean ====
/-
  The local attention's whole result at an index: a sum over the device's heads.
-/
module

public import proofs.«01_k».proof.Proof.KernelIdeal.Local

@[expose] public section

set_option maxRecDepth 16384

noncomputable section

namespace Cert.KernelIdeal.Ring

open Idealize.ShloMosaic Idealize.ShloMosaic.TcCoe
open Cert.KernelIdeal.Gen
open Cert.Soft Cert.Mask

abbrev Box : Type := S8x2048x128.Idx → EReal
abbrev Sq : Type := S1024x1024.Idx → EReal
abbrev Rows : Type := S2048x1024.Idx → EReal

/-- Column `x` of head `h` among the columns of eight heads. -/
def col (h : Fin 8) (x : Fin 128) : Fin 1024 := ⟨128 * h + x, by omega⟩
/-- Row `i` of row block `r`. -/
def row (r : Fin 4) (i : Fin 512) : Fin 2048 := ⟨512 * r + i, by omega⟩

/-- The scaled product of query `i` and key `k` in head `h`. -/
def scr (q : Rows) (fk : Box) (i : Fin 2048) (h : Fin 8) (k : Fin 2048) : EReal :=
  (∑ x : Fin 128, q (ix2 i (col h x)) * fk (ix3 h k x)) * factor
/-- The same, −∞ where query `i` does not attend to key `k`. -/
def tsc (q : Rows) (fk : Box) (i : Fin 2048) (h : Fin 8) (k : Fin 2048) : EReal :=
  if Sees i k then scr q fk i h k else ⊥
/-- What head `h` adds to row `i`, column `o` of the result. -/
def headPart (q : Rows) (fk fv : Box) (fo : Sq) (i : Fin 2048) (o : Fin 1024) (h : Fin 8) : EReal :=
  ∑ x : Fin 128, mean (tsc q fk i h) (fun k => fv (ix3 h k x)) * fo (ix2 (col h x) o)

/-! ## What the loads read -/

theorem read_k (f : Box) (h : Fin 8) {n c0 : ℕ} (inb : ∀ a, (![h.val, c0, 0] : Fin 3 → Nat) a + (⟨3, ![1, n, 128]⟩ : Shape).size a ≤ S8x2048x128.size a)
    (c : Fin n) (x : Fin 128) (k : Fin 2048) (hk : (k : ℕ) = c0 + c) :
    (kM.access (Rect.unit (s := S8x2048x128) ![h.val, c0, 0] (⟨3, ![1, n, 128]⟩ : Shape).size inb)).read (Elt Ideal) f (ix3 0 c x) = f (ix3 h k x) := by
  show f ((Rect.unit (s := S8x2048x128) ![h.val, c0, 0] (⟨3, ![1, n, 128]⟩ : Shape).size inb).emb (ix3 0 c x)) = _
  refine congrArg f (funext fun a => Fin.ext ?_)
  rw [Rect.emb_apply]
  fin_cases a
  · show h.val + 1 * 0 = h.val
    omega
  · show c0 + 1 * c.val = k.val
    omega
  · show 0 + 1 * x.val = x.val
    omega

theorem read_v (f : Box) (h : Fin 8) {n c0 : ℕ} (inb : ∀ a, (![h.val, c0, 0] : Fin 3 → Nat) a + (⟨3, ![1, n, 128]⟩ : Shape).size a ≤ S8x2048x128.size a)
    (c : Fin n) (x : Fin 128) (k : Fin 2048) (hk : (k : ℕ) = c0 + c) :
    (vM.access (Rect.unit (s := S8x2048x128) ![h.val, c0, 0] (⟨3, ![1, n, 128]⟩ : Shape).size inb)).read (Elt Ideal) f (ix3 0 c x) = f (ix3 h k x) :=
  read_k f h inb c x k hk

theorem read_wo (f : Sq) (h : Fin 8) (x : Fin 128) (o : Fin 1024) :
    (woM.access (rectWo h)).read (Elt Ideal) f (ix2 x o) = f (ix2 (col h x) o) := by
  show f ((rectWo h).emb (ix2 x o)) = _
  refine congrArg f (funext fun a => Fin.ext ?_)
  rw [Rect.emb_apply]
  fin_cases a
  · show 128 * h.val + 1 * x.val = 128 * h.val + x.val
    omega
  · show 0 + 1 * o.val = o.val
    omega

theorem qSlice_apply (q : Rows) (r : Fin 4) (h : Fin 8) (i : Fin 512) (x : Fin 128) :
    qSlice (F := Ideal) q r h (ix2 i x) = q (ix2 (row r i) (col h x)) := by
  refine congrArg q (funext fun a => Fin.ext ?_)
  fin_cases a <;> rfl

theorem biased (s : EReal) (p : Prop) [Decidable p] : s + (if p then 0 else ⊥) = if p then s else ⊥ := by
  split
  · exact add_zero s
  · exact EReal.add_bot s

theorem if_iff {p p' : Prop} [Decidable p] [Decidable p'] (h : p ↔ p') (a b : EReal) : (if p then a else b) = if p' then a else b := by
  by_cases hp : p
  · rw [if_pos hp, if_pos (h.mp hp)]
  · rw [if_neg hp, if_neg fun e => hp (h.mpr e)]

/-! ## The row blocks -/

section Heads

variable (q : Rows) (fk fv : Box) (fo : Sq)

theorem allRows_apply (i : Fin 512) (o : Fin 1024) (l : List (Fin 8)) : ∀ acc : FVec Ideal S512x1024 .f32,
    allRows fk fv fo q (biasAll (F := Ideal)) l acc (ix2 i o) = acc (ix2 i o) + (l.map (headPart q fk fv fo (row 0 i) o)).sum := by
  induction l with
  | nil => intro acc; exact (add_zero _).symm
  | cons h l ih =>
    intro acc
    show allRows fk fv fo q (biasAll (F := Ideal)) l (headAll acc (qSlice q 0 h) (biasAll (F := Ideal)) ((kM.access (rectH h)).read (Elt Ideal) fk)
      ((vM.access (rectH h)).read (Elt Ideal) fv) ((woM.access (rectWo h)).read (Elt Ideal) fo)) (ix2 i o) = _
    rw [ih, headAll_apply _ _ _ _ _ _ i o (tsc q fk (row 0 i) h) (fun x k => fv (ix3 h k x)), List.map_cons, List.sum_cons, ← add_assoc]
    · refine Ideal.add_congr (Ideal.add_congr rfl (Finset.sum_congr rfl fun x _ => Ideal.mul_congr rfl ?_)) rfl
      exact read_wo fo h x o
    · intro c
      rw [reads2048.score, biasAll_apply, biased]
      refine Eq.trans (if_iff ?_ _ _) (congrArg (fun s => if Sees (row 0 i) c then s else ⊥) (Ideal.mul_congr (Finset.sum_congr rfl fun x _ =>
        Ideal.mul_congr (qSlice_apply q 0 h i x) (read_k fk h (inbH h) c x c (by omega))) rfl))
      show Sees i c ↔ Sees (512 * 0 + i.val) c
      rw [Nat.mul_zero, Nat.zero_add]
    · intro c x
      exact read_v fv h (inbH h) c x c (by omega)

theorem winRows_apply {n : ℕ} (w : Window n) (R : Reads w.W) (r : Fin 4) (hn : w.c0 + n ≤ 2048) (h128 : 128 ≤ w.c0)
    (bw : FVec Ideal ⟨2, ![512, n]⟩ .f32) (i : Fin 512) (hi : 512 ≤ (row r i).val)
    (hlo : ∀ k : Fin 2048, Near (row r i) k → w.c0 ≤ k.val ∧ k.val < w.c0 + n)
    (hb : ∀ c : Fin n, bw (ix2 i c) = if Near (row r i) (w.c0 + c) then 0 else ⊥) (o : Fin 1024) (l : List (Fin 8)) :
    ∀ acc : FVec Ideal S512x1024 .f32,
    winRows fk fv fo w r q bw (k0_pay19 (F := Ideal)) l acc (ix2 i o) = acc (ix2 i o) + (l.map (headPart q fk fv fo (row r i) o)).sum := by
  have hsn : ∀ k : ℕ, w.c0 ≤ k → (Near (row r i) k ↔ Sees (row r i) k) := by
    intro k hk
    refine ⟨.inl, fun h => ?_⟩
    rcases h with h | h | h
    · exact h
    · omega
    · omega
  have hsg : ∀ k : Fin 2048, k.val < 128 → (k.val < 32 ↔ Sees (row r i) k) := by
    intro k hk
    refine ⟨fun h => .inr (.inl h), fun h => ?_⟩
    rcases h with h | h | h
    · have := (hlo k h).1
      omega
    · exact h
    · omega
  induction l with
  | nil => intro acc; exact (add_zero _).symm
  | cons h l ih =>
    intro acc
    show winRows fk fv fo w r q bw (k0_pay19 (F := Ideal)) l (headWin w.W acc (qSlice q r h) bw (k0_pay19 (F := Ideal)) ((kM.access (w.rect h)).read (Elt Ideal) fk)
      ((kM.access (rectG h)).read (Elt Ideal) fk) ((vM.access (w.rect h)).read (Elt Ideal) fv) ((vM.access (rectG h)).read (Elt Ideal) fv)
      ((woM.access (rectWo h)).read (Elt Ideal) fo)) (ix2 i o) = _
    rw [ih, headWin_apply w.W R _ _ _ _ _ _ _ _ _ i o (tsc q fk (row r i) h) (fun x k => fv (ix3 h k x))
      (fun c => (⟨w.c0 + c, by omega⟩ : Fin 2048)) (fun c => (⟨0 + c, by omega⟩ : Fin 2048)), List.map_cons, List.sum_cons, ← add_assoc]
    · refine Ideal.add_congr (Ideal.add_congr rfl (Finset.sum_congr rfl fun x _ => Ideal.mul_congr rfl ?_)) rfl
      exact read_wo fo h x o
    · intro a b e
      have := congrArg Fin.val e
      exact Fin.ext (by simpa using this)
    · intro a b e
      have := congrArg Fin.val e
      exact Fin.ext (by simpa using this)
    · intro a b e
      have : w.c0 + a.val = 0 + b.val := congrArg Fin.val e
      omega
    · intro k h1 h2
      refine if_neg fun hs => ?_
      have hk : ¬ k.val < 128 := fun hk => h2 ⟨k.val, hk⟩ (Fin.ext (Nat.zero_add _))
      rcases hs with hs | hs | hs
      · obtain ⟨ha, hb⟩ := hlo k hs
        exact h1 ⟨k.val - w.c0, by omega⟩ (Fin.ext (by show w.c0 + (k.val - w.c0) = k.val; omega))
      · omega
      · omega
    · intro c
      rw [R.score, hb, biased]
      exact Eq.trans (if_iff (hsn _ (by omega)) _ _) (congrArg (fun s => if Sees (row r i) (w.c0 + c) then s else ⊥) (Ideal.mul_congr (Finset.sum_congr rfl fun x _ =>
        Ideal.mul_congr (qSlice_apply q r h i x) (read_k fk h (w.inb h) c x _ rfl)) rfl))
    · intro c
      rw [reads128.score, biasG_apply, biased]
      exact Eq.trans (if_iff (Iff.trans (show c.val < 32 ↔ 0 + c.val < 32 by omega) (hsg ⟨0 + c, by omega⟩ (by show 0 + c.val < 128; omega))) _ _) (congrArg (fun s => if Sees (row r i) (0 + c) then s else ⊥) (Ideal.mul_congr (Finset.sum_congr rfl fun x _ =>
        Ideal.mul_congr (qSlice_apply q r h i x) (read_k fk h (inbG h) c x _ rfl)) rfl))
    · intro c x
      exact read_v fv h (w.inb h) c x _ rfl
    · intro c x
      exact read_v fv h (inbG h) c x _ rfl

theorem zeroAcc_apply (i : Fin 512) (o : Fin 1024) : zeroAcc (F := Ideal) (ix2 i o) = 0 := by
  unfold zeroAcc k0_pay2
  pointwise

theorem sum_heads (f : Fin 8 → EReal) : (allHeads.map f).sum = ∑ h, f h := by
  rw [Fin.sum_univ_def]
  rfl

theorem rows_apply (r : Fin 4) (i : Fin 512) (o : Fin 1024) :
    rows (F := Ideal) fk fv fo q r (ix2 i o) = ∑ h, headPart q fk fv fo (row r i) o h := by
  rw [← sum_heads, ← zero_add (List.sum _), ← zeroAcc_apply i o]
  have hi := i.isLt
  fin_cases r
  · exact allRows_apply q fk fv fo i o allHeads _
  · refine winRows_apply q fk fv fo win1 reads768 1 (by decide) (by decide) _ i ?_ ?_ (fun c => bias1_apply i c) o allHeads _
    · show 512 ≤ 512 * 1 + i.val
      omega
    · intro k hk
      obtain ⟨ha, hb⟩ : 512 * 1 + i.val ≤ k.val + 128 ∧ k.val ≤ 512 * 1 + i.val + 128 := hk
      show 384 ≤ k.val ∧ k.val < 384 + 768
      omega
  · refine winRows_apply q fk fv fo win2 reads768 2 (by decide) (by decide) _ i ?_ ?_ (fun c => bias2_apply i c) o allHeads _
    · show 512 ≤ 512 * 2 + i.val
      omega
    · intro k hk
      obtain ⟨ha, hb⟩ : 512 * 2 + i.val ≤ k.val + 128 ∧ k.val ≤ 512 * 2 + i.val + 128 := hk
      show 896 ≤ k.val ∧ k.val < 896 + 768
      omega
  · refine winRows_apply q fk fv fo win3 reads640 3 (by decide) (by decide) _ i ?_ ?_ (fun c => bias3_apply i c) o allHeads _
    · show 512 ≤ 512 * 3 + i.val
      omega
    · intro k hk
      obtain ⟨ha, hb⟩ : 512 * 3 + i.val ≤ k.val + 128 ∧ k.val ≤ 512 * 3 + i.val + 128 := hk
      show 1408 ≤ k.val ∧ k.val < 1408 + 640
      omega

end Heads

/-! ## The whole -/

theorem queries_apply (fx : Rows) (fwq : Sq) (i : Fin 2048) (j : Fin 1024) :
    queries (F := Ideal) fx fwq (ix2 i j) = ∑ x : Fin 1024, fx (ix2 i x) * fwq (ix2 x j) := by
  have hx : (xM.access (Rect.unit (s := S2048x1024) ![0, 0] S2048x1024.size inb_S2048x1024_S2048x1024_0_0)).read (Elt Ideal) fx = fx := by
    funext y
    refine congrArg fx (funext fun a => Fin.ext ?_)
    fin_cases a
    · show 0 + 1 * (y 0).val = (y 0).val
      omega
    · show 0 + 1 * (y 1).val = (y 1).val
      omega
  have hw : (wqM.access (Rect.unit (s := S1024x1024) ![0, 0] S1024x1024.size inb_S1024x1024_S1024x1024_0_0)).read (Elt Ideal) fwq = fwq := by
    funext y
    refine congrArg fwq (funext fun a => Fin.ext ?_)
    fin_cases a
    · show 0 + 1 * (y 0).val = (y 0).val
      omega
    · show 0 + 1 * (y 1).val = (y 1).val
      omega
  unfold queries
  rw [hx, hw]
  unfold k0_pay1
  pointwise

theorem emb_row (r : Fin 4) (y : Fin 512) (o : Fin 1024) :
    ((outM.access (rectRow r)).emb (ix2 y o) : S2048x1024.Idx) = ix2 (row r y) o := by
  refine funext fun a => Fin.ext ?_
  rw [row_emb]
  fin_cases a
  · rfl
  · show 0 + o.val = o.val
    omega

theorem localOut_row (fx : Rows) (fwq : Sq) (fk fv : Box) (fo : Sq) (r : Fin 4) (y : Fin 512) (o : Fin 1024) :
    (localOut (F := Ideal) fx fwq fk fv fo : Rows) (ix2 (row r y) o) = ∑ h, headPart (queries (F := Ideal) fx fwq) fk fv fo (row r y) o h := by
  have h := putRows_at (F := Ideal) fx (rows (F := Ideal) fk fv fo (queries (F := Ideal) fx fwq)) r (ix2 y o)
  rw [rows_apply] at h
  rw [← emb_row]
  exact h

theorem localOut_apply (fx : Rows) (fwq : Sq) (fk fv : Box) (fo : Sq) (i : Fin 2048) (o : Fin 1024) :
    (localOut (F := Ideal) fx fwq fk fv fo : Rows) (ix2 i o) = ∑ h, headPart (queries (F := Ideal) fx fwq) fk fv fo i o h := by
  have e : row ⟨i.val / 512, by omega⟩ ⟨i.val % 512, by omega⟩ = i := Fin.ext (Nat.div_add_mod i.val 512)
  rw [← e]
  exact localOut_row fx fwq fk fv fo _ _ o

end Cert.KernelIdeal.Ring

end
-- ==== Proof.KernelIdeal.RingSum.lean ====
/-
  The ring adds up: every block ends as the sum over all devices.
-/
module

public import proofs.«01_k».proof.Proof.KernelIdeal.Tiles
public import proofs.«01_k».proof.Proof.KernelIdeal.LocalOut

@[expose] public section

set_option maxRecDepth 8000

noncomputable section

namespace Cert.KernelIdeal.Ring

open Idealize.ShloMosaic Idealize.ShloMosaic.TcCoe
open Cert.KernelIdeal.Gen

variable (A : Dev nD → Rows)

theorem nbr_val (b : Bool) (c : Dev nD) : (nbr b c).val = (c.val + (if b then 15 else 1)) % 16 := by
  revert b c; decide

theorem nbr_iter (b : Bool) (c : Dev nD) (j : ℕ) : ((nbr b)^[j] c).val = (c.val + j * (if b then 15 else 1)) % 16 := by
  have hc : c.val < 16 := c.isLt
  induction j with
  | zero => rw [Function.iterate_zero, id, Nat.zero_mul, Nat.add_zero, Nat.mod_eq_of_lt hc]
  | succ j ih =>
    rw [Function.iterate_succ_apply', nbr_val, ih]
    cases b <;> simp <;> omega

theorem chunk_back (b : Bool) (c : Dev nD) (k : ℕ) : chunk b (nbr (!b) c) k = chunk b c (k + 1) := by
  have h := chunk_nbr b (nbr (!b) c) k
  rw [nbr_nbr] at h
  exact h.symm

/-- What is sent at step `k` is the sum of the block over the `k + 1` devices it has passed. -/
theorem sent_sum (b : Bool) (y : S128x512.Idx) : ∀ (k : ℕ) (c : Dev nD), k ≤ 15 →
    (sent (F := Ideal) A b k c y : EReal) = ∑ j ∈ Finset.range (k + 1), (A ((nbr (!b))^[j] c) (inTile b (chunk b c k) y) : EReal) := by
  intro k
  induction k with
  | zero =>
    intro c _
    rw [Finset.sum_range_one]
    rfl
  | succ k ih =>
    intro c hk
    have e : sent (F := Ideal) A b (k + 1) c
        = (addf (F := Ideal) (φ := .f32) (blk (F := Ideal) A b c (chunk b c (k + 1))) (sent (F := Ideal) A b k (nbr (!b) c)) : FVec Ideal S128x512 .f32) :=
      if_pos (show k < 15 by omega)
    have h := ih (nbr (!b) c) (by omega)
    rw [chunk_back] at h
    rw [Finset.sum_range_succ', e]
    show (A c (inTile b (chunk b c (k + 1)) y) : EReal) + sent (F := Ideal) A b k (nbr (!b) c) y = _
    rw [h, add_comm]
    rfl

theorem sum_devices (b : Bool) (c : Dev nD) (f : Dev nD → EReal) : ∑ j ∈ Finset.range 16, f ((nbr b)^[j] c) = ∑ d, f d := by
  rw [Finset.sum_range fun j => f ((nbr b)^[j] c)]
  refine Function.Bijective.sum_comp (e := fun j : Fin 16 => (nbr b)^[j.val] c) ?_ f
  refine (Fintype.bijective_iff_injective_and_card _).mpr ⟨fun i j e => Fin.ext ?_, rfl⟩
  have h := congrArg Fin.val e
  have hi := i.isLt
  have hj := j.isLt
  have hc : c.val < 16 := c.isLt
  simp only [nbr_iter] at h
  cases b <;> simp at h <;> omega

theorem chunk_home (b : Bool) (a : Fin 16) : chunk b (home b a) 15 = a := by
  revert b a; decide

theorem total_sum (b : Bool) (a : Fin 16) (y : S128x512.Idx) : (total (F := Ideal) A b a y : EReal) = ∑ d : Dev nD, (A d (inTile b a y) : EReal) := by
  unfold total
  rw [sent_sum A b y 15 _ le_rfl, chunk_home]
  exact sum_devices (!b) (home b a) fun d => A d (inTile b a y)

theorem finalOut_sum (i : S2048x1024.Idx) : (finalOut (F := Ideal) A i : EReal) = ∑ d : Dev nD, (A d i : EReal) := by
  have h := total_sum A (halfOf i) (blockOf i) (placeOf i)
  rw [emb_placeOf] at h
  exact h

end Cert.KernelIdeal.Ring

end
-- ==== Proof.KernelIdeal.Windows.lean ====
/-
  What the region is given and what its result is read as: each window is its whole array, and the operations before
  the region cut the device's eight heads out of the keys and the values.
-/
module

public import proofs.«01_k».proof.Proof.KernelIdeal.Launch
public import proofs.«01_k».proof.Proof.KernelIdeal.RingSum
public import Idealize.ShloMosaic.Lib.Pipeline.ValueKit
public import Idealize.ShloMosaic.Lib.WordCmp
public import Idealize.ShloMosaic.Lib.Pointwise

@[expose] public section

set_option maxRecDepth 16384

noncomputable section

namespace Cert.KernelIdeal.Ring

open Idealize.ShloMosaic Idealize.ShloMosaic.TcCoe
open Cert.KernelIdeal.Gen

section Windows

variable {F : FTy → Type} [FloatOps F] [Named F]
variable (m : (ℓ : Loc nD τ sig) → Buf (Elt F) ℓ) (c : Dev nD)

theorem at0 : ∀ a, win0_0.index t0_0 a = 0 := by decide +kernel
theorem at1 : ∀ a, win0_1.index t0_0 a = 0 := by decide +kernel
theorem at2 : ∀ a, win0_2.index t0_0 a = 0 := by decide +kernel
theorem at3 : ∀ a, win0_3.index t0_0 a = 0 := by decide +kernel
theorem at4 : ∀ a, win0_4.index t0_0 a = 0 := by decide +kernel

theorem inX_eq (y : S2048x1024.Idx) : inX m c y = V1 m c main_v5 y := by
  unfold inX
  blk_ext [at0]

theorem inWq_eq (y : S1024x1024.Idx) : inWq m c y = V1 m c main_arg1 y := by
  unfold inWq
  blk_ext [at1]

theorem inK_eq (y : S8x2048x128.Idx) : inK m c y = V1 m c main_v18 y := by
  unfold inK
  blk_ext [at2]

theorem inV_eq (y : S8x2048x128.Idx) : inV m c y = V1 m c main_v19 y := by
  unfold inV
  blk_ext [at3]

theorem inWo_eq (y : S1024x1024.Idx) : inWo m c y = V1 m c main_arg4 y := by
  unfold inWo
  blk_ext [at4]

theorem result_eq : result m c = whole₀ m := by
  unfold result
  refine (dat m c).arrAt_eq_of_after_last 5 t0_0 (by decide +kernel) _ fun j => ?_
  blk_simp
  rfl

end Windows

section Host

variable {F : FTy → Type} [FloatOps F] [Named F]
variable (m : (ℓ : Loc nD τ sig) → Buf (Elt F) ℓ) (c : Dev nD)

theorem v5_eq : V1 m c main_v5 = shapeCast S2048x1024 (m ((c : Thread nD τ).loc main_arg0)) shapeCasts_S1x2048x1024_S2048x1024 := by
  unfold_abbrev_sides
  after_results
  rfl

theorem fits : ∀ c : Dev nD, S1x2048x128x128.Slices ![0, 0, 8 * c.val, 0] S1x2048x8x128 := by decide

/-- The device's first head, as the operations before the region compute it. -/
def firstHead (c : Dev nD) : IVec S_ 32 :=
  muli (Host.remui (Host.divui (constantI S_ 32 (Dev.word c)) (constantI S_ 32 1#32)) (constantI S_ 32 16#32)) (constantI S_ 32 8#32)

theorem first_head_word : ∀ c : Dev nD,
    (select (cmpi .slt (firstHead c) (constantI S_ 32 0#32)) (addi (firstHead c) (constantI S_ 32 128#32)) (firstHead c)
      (Shape.Idx.first h_S_)).toInt = ((8 * c.val : ℕ) : ℤ) := by decide +kernel

set_option maxHeartbeats 1000000 in
theorem v18_eq : V1 m c main_v18 = transpose S8x2048x128 [1, 0, 2]
    (shapeCast S2048x8x128 (extractStridedSlice S1x2048x8x128 ![0, 0, 8 * c.val, 0] (m ((c : Thread nD τ).loc main_arg2)) (fits c))
      shapeCasts_S1x2048x8x128_S2048x8x128) transposes_S2048x8x128_S8x2048x128_1_0_2 := by
  unfold_abbrev_sides
  after_results
  rw [WordCmp.dynamicSlice_eq_extract _ _ _ _ ![0, 0, 8 * c.val, 0] (fits c)]
  · rfl
  · intro a
    fin_cases a
    · after_results
      rfl
    · after_results
      rfl
    · after_results
      exact first_head_word c
    · after_results
      rfl

set_option maxHeartbeats 1000000 in
theorem v19_eq : V1 m c main_v19 = transpose S8x2048x128 [1, 0, 2]
    (shapeCast S2048x8x128 (extractStridedSlice S1x2048x8x128 ![0, 0, 8 * c.val, 0] (m ((c : Thread nD τ).loc main_arg3)) (fits c))
      shapeCasts_S1x2048x8x128_S2048x8x128) transposes_S2048x8x128_S8x2048x128_1_0_2 := by
  unfold_abbrev_sides
  after_results
  rw [WordCmp.dynamicSlice_eq_extract _ _ _ _ ![0, 0, 8 * c.val, 0] (fits c)]
  · rfl
  · intro a
    fin_cases a
    · after_results
      rfl
    · after_results
      rfl
    · after_results
      exact first_head_word c
    · after_results
      rfl

theorem v21_eq : V3 m (outs m) c (Proc.devRef .tc main_v21)
    = broadcastInDim S1x2048x1024 ![1, 2] bcast_S2048x1024_S1x2048x1024_1_2 (result m c) := by
  have h : V3 m (outs m) c (Proc.devRef .tc main_v21)
      = broadcastInDim S1x2048x1024 ![1, 2] bcast_S2048x1024_S1x2048x1024_1_2 (V2 m (outs m) c (Proc.devRef .tc main_v20)) := by
    unfold_abbrev_sides
    after_results
  rw [h, V2_out]

end Host

section Value

variable (m : (ℓ : Loc nD τ sig) → Buf (Elt Ideal) ℓ) (c : Dev nD)

abbrev argX : S1x2048x1024.Idx → EReal := m ((c : Thread nD τ).loc main_arg0)
abbrev argWq : Sq := m ((c : Thread nD τ).loc main_arg1)
abbrev argK : S1x2048x128x128.Idx → EReal := m ((c : Thread nD τ).loc main_arg2)
abbrev argV : S1x2048x128x128.Idx → EReal := m ((c : Thread nD τ).loc main_arg3)
abbrev argWo : Sq := m ((c : Thread nD τ).loc main_arg4)

/-- Head `h` of device `c` among all the heads. -/
def headOf (c : Dev nD) (h : Fin 8) : Fin 128 := ⟨8 * c.val + h.val, by have := c.isLt; have : (16 : ℕ) = nD := rfl; omega⟩

set_option maxHeartbeats 1000000 in
theorem inX_apply (i : Fin 2048) (x : Fin 1024) : (inX m c : Rows) (ix2 i x) = argX m c (ix3 0 i x) := by
  refine (inX_eq m c _).trans ?_
  rw [v5_eq]
  have e (v : S1x2048x1024.Idx → EReal) :
      shapeCast S2048x1024 v shapeCasts_S1x2048x1024_S2048x1024 (ix2 i x) = v (ix3 0 i x) := by pointwise
  exact e _

theorem inK_apply (h : Fin 8) (k : Fin 2048) (x : Fin 128) : (inK m c : Box) (ix3 h k x) = argK m c (ix4 0 k (headOf c h) x) := by
  refine (inK_eq m c _).trans ?_
  rw [v18_eq]
  pointwise
  rfl

theorem inV_apply (h : Fin 8) (k : Fin 2048) (x : Fin 128) : (inV m c : Box) (ix3 h k x) = argV m c (ix4 0 k (headOf c h) x) := by
  refine (inV_eq m c _).trans ?_
  rw [v19_eq]
  pointwise
  rfl

/-- What device `d` adds to the result. -/
def parts (d : Dev nD) : Rows := part₀ m d

theorem parts_sum (i : Fin 2048) (o : Fin 1024) : ∑ d : Dev nD, parts m d (ix2 i o)
    = ∑ d : Dev nD, ∑ h : Fin 8, headPart (queries (inX m d) (inWq m d)) (inK m d) (inV m d) (inWo m d) i o h :=
  Finset.sum_congr rfl fun d _ => localOut_apply (inX m d) (inWq m d) (inK m d) (inV m d) (inWo m d) i o

theorem out_apply (i : Fin 2048) (o : Fin 1024) :
    (V3 m (outs m) c (Proc.devRef .tc main_v21) : S1x2048x1024.Idx → EReal) (ix3 0 i o)
      = ∑ d : Dev nD, ∑ h : Fin 8, headPart (queries (inX m d) (inWq m d)) (inK m d) (inV m d) (inWo m d) i o h := by
  rw [v21_eq, result_eq]
  pointwise
  refine (finalOut_sum (parts m) (ix2 i o)).trans ?_
  exact parts_sum m i o

end Value

end Cert.KernelIdeal.Ring

end
-- ==== Proof.ReferenceIdeal.Value.lean ====
/-
  The reference's result at an index: the sum, over the columns of all heads, of the weighted mean of the values times
  the output projection.
-/
module

public import proofs.«01_k».proof.Proof.Gen.ReferenceIdeal
public import proofs.«01_k».proof.Proof.Gen.ReferenceIdeal.Run
public import proofs.«01_k».proof.Proof.KernelIdeal.Soft
public import proofs.«01_k».proof.Proof.KernelIdeal.Mask
public import Idealize.ShloMosaic.Lib.Pointwise
public import Idealize.ShloMosaic.Lib.Routing.OpsOrder

@[expose] public section

set_option maxRecDepth 16384

noncomputable section

namespace Cert.ReferenceIdeal.Attn

open Idealize.ShloMosaic Idealize.ShloMosaic.TcCoe
open Cert.ReferenceIdeal Cert.ReferenceIdeal.Gen
open Cert.Soft Cert.Mask

/-- The factor of the scores. -/
abbrev factor : EReal := Ideal.ofBits .f32 0x3DB504F3#32

theorem neg_inf : Ideal.ofBits .f32 0xFF800000#32 = ⊥ := by simp [Ideal.ofBits, Ideal.ieee]

/-! ## The parts of the reference -/

/-- Which query attends to which key. -/
def seen : IVec S2048x2048 1 :=
  ori (cmpi .sle (absi (subi
      (broadcastInDim S2048x2048 ![0, 1] bcast_S2048x1_S2048x2048_0_1 (broadcastInDim S2048x1 ![0] bcast_S2048_S2048x1_0 (iotaInDim S2048 32 0)))
      (broadcastInDim S2048x2048 ![0, 1] bcast_S1x2048_S2048x2048_0_1 (broadcastInDim S1x2048 ![1] bcast_S2048_S1x2048_1 (iotaInDim S2048 32 0)))))
    (broadcastInDim S2048x2048 ![] bcast_S_S2048x2048 (constantI S_ 32 128#32)))
    (ori (broadcastInDim S2048x2048 ![0, 1] bcast_S1x2048_S2048x2048_0_1
        (cmpi .slt (broadcastInDim S1x2048 ![1] bcast_S2048_S1x2048_1 (iotaInDim S2048 32 0)) (broadcastInDim S1x2048 ![] bcast_S_S1x2048 (constantI S_ 32 32#32))))
      (broadcastInDim S2048x2048 ![0, 1] bcast_S2048x1_S2048x2048_0_1
        (cmpi .slt (broadcastInDim S2048x1 ![0] bcast_S2048_S2048x1_0 (iotaInDim S2048 32 0)) (broadcastInDim S2048x1 ![] bcast_S_S2048x1 (constantI S_ 32 32#32)))))

/-- Which query attends to a key at all. -/
def rowOn : IVec S1x1x2048x1 1 :=
  broadcastInDim S1x1x2048x1 ![2] bcast_S2048_S1x1x2048x1_2
    (Host.reduce IntOp.ori seen (constantI S_ 1 0#1) reducesTo_S2048x2048_S2048_d1 h_S_)

/-- The queries, by heads. -/
def heads (x : FVec Ideal S1x2048x1024 .f32) (wq : FVec Ideal S1024x16384 .f32) : FVec Ideal S1x2048x128x128 .f32 :=
  shapeCast S1x2048x128x128 (Host.dotGeneral dot_S1x2048x1024_S1024x16384_S1x2048x16384_2_0_01_1_n_n none x wq) shapeCasts_S1x2048x16384_S1x2048x128x128

/-- The masked scores. -/
def scores (q k : FVec Ideal S1x2048x128x128 .f32) : FVec Ideal S1x128x2048x2048 .f32 :=
  select (broadcastInDim S1x128x2048x2048 ![0, 1, 2, 3] bcast_S1x1x2048x2048_S1x128x2048x2048_0_1_2_3
      (broadcastInDim S1x1x2048x2048 ![2, 3] bcast_S2048x2048_S1x1x2048x2048_2_3 seen))
    (mulf (Host.dotGeneral dot_S1x2048x128x128_S1x2048x128x128_S1x128x2048x2048_3_3_1_1_02_02 none q k)
      (broadcastInDim S1x128x2048x2048 ![] bcast_S_S1x128x2048x2048 (constant S_ .f32 0x3DB504F3#32)))
    (broadcastInDim S1x128x2048x2048 ![] bcast_S_S1x128x2048x2048 (id (constant S_ .f32 0xFF800000#32)))

/-- The weights of the scores. -/
def expos (s : FVec Ideal S1x128x2048x2048 .f32) : FVec Ideal S1x128x2048x2048 .f32 :=
  Host.exp (subf s (broadcastInDim S1x128x2048x2048 ![0, 1, 2, 3] bcast_S1x128x2048x1_S1x128x2048x2048_0_1_2_3
    (broadcastInDim S1x128x2048x1 ![0, 1, 2] bcast_S1x128x2048_S1x128x2048x1_0_1_2
      (Host.reduce FloatOps.maximumf s (constant S_ .f32 0xFF800000#32) reducesTo_S1x128x2048x2048_S1x128x2048_d3 h_S_))))

/-- The sums of the weights. -/
def dens (s : FVec Ideal S1x128x2048x2048 .f32) : FVec Ideal S1x128x2048x1 .f32 :=
  select (broadcastInDim S1x128x2048x1 ![0, 1, 2, 3] bcast_S1x1x2048x1_S1x128x2048x1_0_1_2_3 rowOn)
    (broadcastInDim S1x128x2048x1 ![0, 1, 2] bcast_S1x128x2048_S1x128x2048x1_0_1_2
      (Host.reduceAdd (expos s) (constant S_ .f32 0x00000000#32) reducesTo_S1x128x2048x2048_S1x128x2048_d3 h_S_))
    (broadcastInDim S1x128x2048x1 ![] bcast_S_S1x128x2048x1 (id (constant S_ .f32 0x3F800000#32)))

/-- The probabilities. -/
def probs (s : FVec Ideal S1x128x2048x2048 .f32) : FVec Ideal S1x128x2048x2048 .f32 :=
  select (broadcastInDim S1x128x2048x2048 ![0, 1, 2, 3] bcast_S1x1x2048x1_S1x128x2048x2048_0_1_2_3 rowOn)
    (Host.divf (expos s) (broadcastInDim S1x128x2048x2048 ![0, 1, 2, 3] bcast_S1x128x2048x1_S1x128x2048x2048_0_1_2_3 (dens s)))
    (broadcastInDim S1x128x2048x2048 ![] bcast_S_S1x128x2048x2048 (id (constant S_ .f32 0x00000000#32)))

/-- The attended values, by columns of all heads. -/
def mixed (v : FVec Ideal S1x2048x128x128 .f32) (p : FVec Ideal S1x128x2048x2048 .f32) : FVec Ideal S1x2048x16384 .f32 :=
  shapeCast S1x2048x16384 (transpose S1x2048x128x128 [0, 3, 1, 2]
    (Host.dotGeneral dot_S1x2048x128x128_S1x128x2048x2048_S1x128x128x2048_1_3_3_2_02_01 none v p)
    transposes_S1x128x128x2048_S1x2048x128x128_0_3_1_2) shapeCasts_S1x2048x128x128_S1x2048x16384

/-- The projection of the attended values. -/
def projected (u : FVec Ideal S1x2048x16384 .f32) (wo : FVec Ideal S16384x1024 .f32) : FVec Ideal S1x2048x1024 .f32 :=
  Host.dotGeneral dot_S1x2048x16384_S16384x1024_S1x2048x1024_2_0_01_1_n_n none u wo

theorem res_eq (m : (ℓ : Loc nD τ sig) → Buf (Elt Ideal) ℓ) (c : Dev nD) :
    Value.res_main_v42 (F := Ideal) m c
      = projected (mixed (m ((c : Thread nD τ).loc main_arg3))
          (probs (scores (heads (m ((c : Thread nD τ).loc main_arg0)) (m ((c : Thread nD τ).loc main_arg1))) (m ((c : Thread nD τ).loc main_arg2)))))
        (m ((c : Thread nD τ).loc main_arg4)) := rfl

/-! ## Each at an index -/

theorem seen_apply (i k : Fin 2048) : seen (ix2 i k) = 1#1 ↔ Sees i k := by
  unfold seen
  pointwise
  exact sees_word' (by omega) (by omega)

theorem select_on {α : Type} (a b : α) : Scalar.select 1#1 a b = a :=
  (select_iff (p := True) ⟨fun _ => trivial, fun _ => rfl⟩ a b).trans (if_pos trivial)

theorem sees_self (i : ℕ) : Sees i i := by
  unfold Sees Near
  omega

theorem rowOn_apply (i : Fin 2048) : rowOn (ix4 0 0 i 0) = 1#1 := by
  unfold rowOn
  pointwise
  refine (Routing.fold_ori _ _).mpr ⟨i, Finset.mem_univ _, ?_⟩
  exact (seen_apply i i).mpr (sees_self i)

/-- Column `x` of head `h` among the columns of all heads. -/
def wide (h x : Fin 128) : Fin 16384 := ⟨h.val * 128 + x.val, by omega⟩

theorem heads_apply (x : FVec Ideal S1x2048x1024 .f32) (wq : FVec Ideal S1024x16384 .f32) (i : Fin 2048) (h y : Fin 128) :
    heads x wq (ix4 0 i h y) = (∑ z : Fin 1024, x (ix3 0 i z) * wq (ix2 z (wide h y)) : EReal) := by
  unfold heads
  pointwise
  rfl

/-- The masked scores, of query `i` in head `h`. -/
def row (q k : FVec Ideal S1x2048x128x128 .f32) (h : Fin 128) (i j : Fin 2048) : EReal :=
  if Sees i j then (∑ y : Fin 128, (q (ix4 0 i h y) : EReal) * k (ix4 0 j h y)) * factor else ⊥

theorem scores_apply (q k : FVec Ideal S1x2048x128x128 .f32) (h : Fin 128) (i j : Fin 2048) :
    scores q k (ix4 0 h i j) = row q k h i j := by
  unfold scores
  pointwise
  rw [select_iff (seen_apply i j)]
  unfold row
  refine if_congr Iff.rfl rfl ?_
  pointwise
  exact neg_inf

theorem expos_apply (s : FVec Ideal S1x128x2048x2048 .f32) (h : Fin 128) (i j : Fin 2048) :
    expos s (ix4 0 h i j) = wt (fun j => s (ix4 0 h i j)) j := by
  unfold expos
  pointwise
  rw [neg_inf]
  rfl

theorem dens_apply (s : FVec Ideal S1x128x2048x2048 .f32) (h : Fin 128) (i : Fin 2048) :
    dens s (ix4 0 h i 0) = den (fun j => s (ix4 0 h i j)) := by
  unfold dens
  pointwise
  rw [rowOn_apply, select_on]
  unfold den
  exact Finset.sum_congr rfl fun j _ => expos_apply s h i j

theorem on_apply (h : Fin 128) (i j : Fin 2048) :
    broadcastInDim S1x128x2048x2048 ![0, 1, 2, 3] bcast_S1x1x2048x1_S1x128x2048x2048_0_1_2_3 rowOn (ix4 0 h i j) = 1#1 := by
  pointwise
  exact rowOn_apply i

theorem quot_apply (s : FVec Ideal S1x128x2048x2048 .f32) (d : FVec Ideal S1x128x2048x1 .f32) (h : Fin 128) (i j : Fin 2048) :
    Host.divf s (broadcastInDim S1x128x2048x2048 ![0, 1, 2, 3] bcast_S1x128x2048x1_S1x128x2048x2048_0_1_2_3 d) (ix4 0 h i j)
      = Ideal.div (s (ix4 0 h i j)) (d (ix4 0 h i 0)) := by
  pointwise

theorem pick_apply {s : Shape} {α : Type} (c : IVec s 1) (a b : s.Idx → α) (i : s.Idx) (h : c i = 1#1) : select c a b i = a i := by
  show Scalar.select (c i) (a i) (b i) = a i
  rw [h, select_on]

theorem probs_apply (s : FVec Ideal S1x128x2048x2048 .f32) (h : Fin 128) (i j : Fin 2048) :
    probs s (ix4 0 h i j) = Ideal.div (wt (fun j => s (ix4 0 h i j)) j) (den fun j => s (ix4 0 h i j)) := by
  unfold probs
  rw [pick_apply _ _ _ _ (on_apply h i j), quot_apply, expos_apply, dens_apply]

theorem wide_div (h y : Fin 128) (lt : (wide h y).val / 128 < 128) : (⟨(wide h y).val / 128, lt⟩ : Fin 128) = h := by
  apply Fin.ext
  unfold wide
  simp only
  omega

theorem wide_mod (h y : Fin 128) (lt : (wide h y).val % 128 < 128) : (⟨(wide h y).val % 128, lt⟩ : Fin 128) = y := by
  apply Fin.ext
  unfold wide
  simp only
  omega

theorem mixed_apply (v : FVec Ideal S1x2048x128x128 .f32) (p : FVec Ideal S1x128x2048x2048 .f32) (i : Fin 2048) (h y : Fin 128) :
    mixed v p (ix3 0 i (wide h y)) = (∑ j : Fin 2048, v (ix4 0 j h y) * p (ix4 0 h i j) : EReal) := by
  have e (z : Fin 16384) (l₁ : z.val / 128 < 128) (l₂ : z.val % 128 < 128) : mixed v p (ix3 0 i z)
      = (∑ j : Fin 2048, v (ix4 0 j ⟨z.val / 128, l₁⟩ ⟨z.val % 128, l₂⟩) * p (ix4 0 ⟨z.val / 128, l₁⟩ i j) : EReal) := by
    unfold mixed
    pointwise
  rw [e (wide h y) (by omega) (by omega), wide_div, wide_mod]

theorem projected_apply (u : FVec Ideal S1x2048x16384 .f32) (wo : FVec Ideal S16384x1024 .f32) (i : Fin 2048) (o : Fin 1024) :
    projected u wo (ix3 0 i o) = (∑ z : Fin 16384, u (ix3 0 i z) * wo (ix2 z o) : EReal) := by
  unfold projected
  pointwise

end Cert.ReferenceIdeal.Attn

end
-- ==== Proof.Value.Agree.lean ====
/-
  The two results are one: head by head, the sum over the devices is the projection of all heads.
-/
module

public import proofs.«01_k».proof.Proof.KernelIdeal.Windows
public import proofs.«01_k».proof.Proof.ReferenceIdeal.Value
public import Idealize.ShloMosaic.Lib.Layout

@[expose] public section

set_option maxRecDepth 16384

noncomputable section

namespace Cert.Agree

open Idealize.ShloMosaic Idealize.ShloMosaic.TcCoe
open Cert.Soft Cert.Mask
open Cert.ReferenceIdeal.Attn
open Cert.KernelIdeal.Ring (col headOf headPart tsc scr queries Box Sq Rows)

/-! ## The columns, by devices and heads -/

theorem wide_bij : Function.Bijective fun p : Fin 128 × Fin 128 => wide p.1 p.2 := by
  constructor
  · rintro ⟨a, b⟩ ⟨a', b'⟩ e
    have e' : a.val * 128 + b.val = a'.val * 128 + b'.val := congrArg Fin.val e
    exact Prod.ext (Fin.ext (by show a.val = a'.val; omega)) (Fin.ext (by show b.val = b'.val; omega))
  · intro z
    exact ⟨(⟨z.val / 128, by omega⟩, ⟨z.val % 128, by omega⟩), Fin.ext (Nat.div_add_mod' z.val 128)⟩

theorem sum_wide (f : Fin 16384 → EReal) : ∑ z, f z = ∑ h : Fin 128, ∑ y : Fin 128, f (wide h y) := by
  rw [← Fintype.sum_prod_type' fun h y => f (wide h y)]
  exact (Fintype.sum_bijective _ wide_bij _ _ fun _ => rfl).symm

theorem headOf_val (d : Dev KernelIdeal.nD) (h : Fin 8) : (headOf d h).val = 8 * d.val + h.val := rfl

theorem headOf_bij : Function.Bijective fun p : Dev KernelIdeal.nD × Fin 8 => headOf p.1 p.2 := by
  constructor
  · rintro ⟨a, b⟩ ⟨a', b'⟩ e
    have e' : 8 * a.val + b.val = 8 * a'.val + b'.val := congrArg Fin.val e
    exact Prod.ext (Fin.ext (by show a.val = a'.val; omega)) (Fin.ext (by show b.val = b'.val; omega))
  · intro z
    exact ⟨(⟨z.val / 8, by show _ < 16; omega⟩, ⟨z.val % 8, by omega⟩), Fin.ext (Nat.div_add_mod z.val 8)⟩

theorem sum_heads (f : Fin 128 → EReal) : ∑ h, f h = ∑ d : Dev KernelIdeal.nD, ∑ h : Fin 8, f (headOf d h) := by
  rw [← Fintype.sum_prod_type' fun d h => f (headOf d h)]
  exact (Fintype.sum_bijective _ headOf_bij _ _ fun _ => rfl).symm

/-! ## The reference -/

variable (x : FVec Ideal ReferenceIdeal.S1x2048x1024 .f32) (wq : FVec Ideal ReferenceIdeal.S1024x16384 .f32)
  (k v : FVec Ideal ReferenceIdeal.S1x2048x128x128 .f32) (wo : FVec Ideal ReferenceIdeal.S16384x1024 .f32)

/-- What head `h` adds to row `i`, column `o` of the result. -/
def headSum (h : Fin 128) (i : Fin 2048) (o : Fin 1024) : EReal :=
  ∑ y : Fin 128, mean (row (heads x wq) k h i) (fun j => v (ix4 0 j h y)) * wo (ix2 (wide h y) o)

theorem factor_real : Real' factor := by
  show Real' (Ideal.ieee 8 23 (0x3DB504F3#32))
  unfold Ideal.ieee
  simp only
  rw [if_neg (by decide), if_neg (by decide)]
  exact ⟨_, rfl⟩

section Real

variable (hx : ∀ i, Real' (x i)) (hwq : ∀ i, Real' (wq i)) (hk : ∀ i, Real' (k i))

include hx hwq hk

theorem dot_real (h : Fin 128) (i j : Fin 2048) : Real' ((∑ y : Fin 128, (heads x wq (ix4 0 i h y) : EReal) * k (ix4 0 j h y)) * factor) := by
  refine Real'.mul (Real'.sum _ _ fun y => Real'.mul ?_ (hk _)) factor_real
  rw [heads_apply]
  exact Real'.sum _ _ fun z => Real'.mul (hx _) (hwq _)

theorem row_real (h : Fin 128) (i j : Fin 2048) : row (heads x wq) k h i j = ⊥ ∨ Real' (row (heads x wq) k h i j) := by
  unfold row
  split_ifs
  · exact Or.inr (dot_real x wq k hx hwq hk h i j)
  · exact Or.inl rfl

theorem row_self (h : Fin 128) (i : Fin 2048) : Real' (row (heads x wq) k h i i) := by
  unfold row
  rw [if_pos (sees_self i.val)]
  exact dot_real x wq k hx hwq hk h i i

theorem reference_apply (i : Fin 2048) (o : Fin 1024) :
    (projected (mixed v (probs (scores (heads x wq) k))) wo (ix3 0 i o) : EReal) = ∑ h : Fin 128, headSum x wq k v wo h i o := by
  rw [projected_apply, sum_wide]
  refine Finset.sum_congr rfl fun h _ => Finset.sum_congr rfl fun y _ => ?_
  refine Ideal.mul_congr ?_ rfl
  rw [mixed_apply]
  rw [← mean_eq (row (heads x wq) k h i) (fun j => v (ix4 0 j h y)) (row_real x wq k hx hwq hk h i) i (row_self x wq k hx hwq hk h i)]
  refine Finset.sum_congr rfl fun j _ => ?_
  have e : (fun j => scores (heads x wq) k (ix4 0 h i j)) = row (heads x wq) k h i := funext fun j => scores_apply _ _ h i j
  rw [probs_apply, e]

end Real

/-! ## The kernel -/

section Kernel

variable (d : Dev KernelIdeal.nD) (fx : Rows) (fwq : Sq) (fk fv : Box) (fo : Sq)
  (ex : ∀ i z, fx (ix2 i z) = x (ix3 0 i z))
  (ewq : ∀ z h y, fwq (ix2 z (col h y)) = wq (ix2 z (wide (headOf d h) y)))
  (ek : ∀ h j y, fk (ix3 h j y) = k (ix4 0 j (headOf d h) y))
  (ev : ∀ h j y, fv (ix3 h j y) = v (ix4 0 j (headOf d h) y))
  (eo : ∀ h y o, fo (ix2 (col h y) o) = wo (ix2 (wide (headOf d h) y) o))

include ex ewq in
theorem queries_eq (i : Fin 2048) (h : Fin 8) (y : Fin 128) :
    (queries (F := Ideal) fx fwq (ix2 i (col h y)) : EReal) = heads x wq (ix4 0 i (headOf d h) y) := by
  rw [KernelIdeal.Ring.queries_apply, heads_apply]
  exact Finset.sum_congr rfl fun z _ => Ideal.mul_congr (ex i z) (ewq z h y)

include ex ewq ek in
theorem tsc_eq (i : Fin 2048) (h : Fin 8) : tsc (queries (F := Ideal) fx fwq) fk i h = row (heads x wq) k (headOf d h) i := by
  funext j
  unfold tsc row scr
  refine if_congr Iff.rfl (Ideal.mul_congr (Finset.sum_congr rfl fun y _ => ?_) rfl) rfl
  exact Ideal.mul_congr (queries_eq x wq d fx fwq ex ewq i h y) (ek h j y)

include ex ewq ek ev eo in
theorem headPart_eq (i : Fin 2048) (o : Fin 1024) (h : Fin 8) :
    headPart (queries (F := Ideal) fx fwq) fk fv fo i o h = headSum x wq k v wo (headOf d h) i o := by
  unfold headPart headSum
  refine Finset.sum_congr rfl fun y _ => Ideal.mul_congr ?_ (eo h y o)
  rw [tsc_eq x wq k d fx fwq fk ex ewq ek i h]
  exact congrArg (mean _) (funext fun j => ev h j y)

end Kernel

/-! ## The two together -/

theorem block_cols (f : ReferenceIdeal.S1024x16384.Idx → EReal) (d : Fin 16) (z : Fin 1024) (h : Fin 8) (y : Fin 128) :
    Layout.block ⟨2, ![1024, 1024]⟩ ⟨2, ![1024, 16384]⟩ 1 16 d f (by decide) (ix2 z (col h y)) = f (ix2 z (wide (headOf d h) y)) := by
  rw [Layout.block_apply]
  refine congrArg f (funext fun a => Fin.ext ?_)
  fin_cases a
  · rfl
  · show d.val * 1024 + (128 * h.val + y.val) = (8 * d.val + h.val) * 128 + y.val
    omega

theorem block_rows (f : ReferenceIdeal.S16384x1024.Idx → EReal) (d : Fin 16) (h : Fin 8) (y : Fin 128) (o : Fin 1024) :
    Layout.block ⟨2, ![1024, 1024]⟩ ⟨2, ![16384, 1024]⟩ 0 16 d f (by decide) (ix2 (col h y) o) = f (ix2 (wide (headOf d h) y) o) := by
  rw [Layout.block_apply]
  refine congrArg f (funext fun a => Fin.ext ?_)
  fin_cases a
  · show d.val * 1024 + (128 * h.val + y.val) = (8 * d.val + h.val) * 128 + y.val
    omega
  · rfl

/-- Every column is some device's. -/
theorem block_cols_all (f : ReferenceIdeal.S1024x16384.Idx → EReal)
    (hf : ∀ (d : Fin 16) i, Real' (Layout.block ⟨2, ![1024, 1024]⟩ ⟨2, ![1024, 16384]⟩ 1 16 d f (by decide) i)) : ∀ i, Real' (f i) := by
  intro i
  obtain ⟨⟨H, y⟩, e⟩ := wide_bij.2 (i 1)
  obtain ⟨⟨d, h⟩, e'⟩ := headOf_bij.2 H
  obtain ⟨z, hz⟩ : ∃ z : Fin 1024, z = i 0 := ⟨i 0, rfl⟩
  have e₁ : i = ix2 z (wide (headOf d h) y) := by
    funext a
    fin_cases a
    · exact hz.symm
    · show i 1 = wide (headOf d h) y
      rw [← e]
      exact congrArg (fun H => wide H y) e'.symm
  rw [e₁, ← block_cols f]
  exact hf _ _

section Whole

open Cert.KernelIdeal.Ring (inX inWq inK inV inWo inX_eq inWq_eq inWo_eq inX_apply inK_apply inV_apply out_apply outs)

variable (m : (ℓ : Loc KernelIdeal.nD KernelIdeal.τ KernelIdeal.sig) → Buf (Elt Ideal) ℓ)

theorem inWq_whole (d : Dev KernelIdeal.nD) (i : KernelIdeal.S1024x1024.Idx) :
    (inWq m d : Sq) i = (m ((d : Thread KernelIdeal.nD KernelIdeal.τ).loc KernelIdeal.main_arg1) : Sq) i :=
  (inWq_eq m d i).trans (congrFun (KernelIdeal.Gen.V1_of m d KernelIdeal.main_arg1 (by decide)) i)

theorem inWo_whole (d : Dev KernelIdeal.nD) (i : KernelIdeal.S1024x1024.Idx) :
    (inWo m d : Sq) i = (m ((d : Thread KernelIdeal.nD KernelIdeal.τ).loc KernelIdeal.main_arg4) : Sq) i :=
  (inWo_eq m d i).trans (congrFun (KernelIdeal.Gen.V1_of m d KernelIdeal.main_arg4 (by decide)) i)

/-- From arguments that are the reference's, cut over the devices, every device's result is the reference's. -/
theorem out_eq
    (h0 : ∀ d : Dev KernelIdeal.nD, m ((d : Thread KernelIdeal.nD KernelIdeal.τ).loc KernelIdeal.main_arg0) = x)
    (h1 : ∀ d : Dev KernelIdeal.nD, m ((d : Thread KernelIdeal.nD KernelIdeal.τ).loc KernelIdeal.main_arg1)
      = Layout.block ⟨2, ![1024, 1024]⟩ ⟨2, ![1024, 16384]⟩ 1 16 d wq)
    (h2 : ∀ d : Dev KernelIdeal.nD, m ((d : Thread KernelIdeal.nD KernelIdeal.τ).loc KernelIdeal.main_arg2) = k)
    (h3 : ∀ d : Dev KernelIdeal.nD, m ((d : Thread KernelIdeal.nD KernelIdeal.τ).loc KernelIdeal.main_arg3) = v)
    (h4 : ∀ d : Dev KernelIdeal.nD, m ((d : Thread KernelIdeal.nD KernelIdeal.τ).loc KernelIdeal.main_arg4)
      = Layout.block ⟨2, ![1024, 1024]⟩ ⟨2, ![16384, 1024]⟩ 0 16 d wo)
    (hx : ∀ i, Real' (x i)) (hwq : ∀ i, Real' (wq i)) (hk : ∀ i, Real' (k i)) (c : Dev KernelIdeal.nD) :
    KernelIdeal.Gen.V3 m (outs m) c (Proc.devRef .tc KernelIdeal.main_v21)
      = projected (mixed v (probs (scores (heads x wq) k))) wo := by
  funext j
  obtain ⟨i, hi⟩ : ∃ i : Fin 2048, i = j 1 := ⟨j 1, rfl⟩
  obtain ⟨o, ho⟩ : ∃ o : Fin 1024, o = j 2 := ⟨j 2, rfl⟩
  have e : j = ix3 0 i o := by
    funext a
    fin_cases a
    · exact Subsingleton.elim (α := Fin 1) _ _
    · exact hi.symm
    · exact ho.symm
  rw [e]
  have key : ∑ d : Dev KernelIdeal.nD, ∑ h : Fin 8, headPart (queries (F := Ideal) (inX m d) (inWq m d)) (inK m d) (inV m d) (inWo m d) i o h
      = ∑ h : Fin 128, headSum x wq k v wo h i o := by
    rw [sum_heads]
    refine Finset.sum_congr rfl fun d _ => Finset.sum_congr rfl fun h _ => ?_
    refine headPart_eq x wq k v wo d _ _ _ _ _ ?_ ?_ ?_ ?_ ?_ i o h
    · intro i z
      rw [inX_apply]
      exact congrFun (h0 d) _
    · intro z h y
      rw [inWq_whole]
      exact (congrFun (h1 d) _).trans (block_cols wq d z h y)
    · intro h j y
      rw [inK_apply]
      exact congrFun (h2 d) _
    · intro h j y
      rw [inV_apply]
      exact congrFun (h3 d) _
    · intro h y o
      rw [inWo_whole]
      exact (congrFun (h4 d) _).trans (block_rows wo d h y o)
  exact (out_apply m c i o).trans (key.trans (reference_apply x wq k v wo hx hwq hk i o).symm)

end Whole

end Cert.Agree

end
-- ==== Proof.lean ====
/-
  The claim, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value.Finite
public import proofs.«01_k».proof.Proof.Value.Agree

@[expose] public section

noncomputable section

namespace Cert.Proof

open Idealize.ShloMosaic

instance preReference : Cert.Pre_finite_ReferenceIdeal.Facts where
  bcast_S_S1x2048x1024 := by decide
  reducesTo_S1x2048x1024_S_d0_1_2 := by decide
  h_S_ := by decide
  bcast_S_S1024x16384 := by decide
  reducesTo_S1024x16384_S_d0_1 := by decide
  bcast_S_S1x2048x128x128 := by decide
  reducesTo_S1x2048x128x128_S_d0_1_2_3 := by decide

theorem quiet : quiescent_Kernel := fun m g _ =>
  (θ_run _ _ _).mono (fun _ h => ⟨fun c => ⟨(h.1 c).1.1, (h.1 c).1.2.1, (h.1 c).1.2.2.1, (h.1 c).1.2.2.2.1, (h.1 c).1.2.2.2.2.1⟩, h.2⟩) (Cert.Kernel.Ring.run m g)

theorem quietIdeal : quiescent_KernelIdeal := fun m g _ =>
  (θ_run _ _ _).mono (fun _ h => ⟨fun c => ⟨(h.1 c).1.1, (h.1 c).1.2.1, (h.1 c).1.2.2.1, (h.1 c).1.2.2.2.1, (h.1 c).1.2.2.2.2.1⟩, h.2⟩) (Cert.KernelIdeal.Ring.run m g)

/-- The reference has no semaphore. -/
theorem quietReference : quiescent_ReferenceIdeal := fun m g _ =>
  (θ_run _ _ _).mono (fun _ h => ⟨fun c => (h c).2, by
    funext x
    rcases x with ⟨_, s | s⟩
    · exact s.elim0
    · exact s.elim0⟩) (Cert.ReferenceIdeal.Value.run (F := Ideal) m g)

open Cert.Soft in
theorem agree : algebraic_KernelIdeal_ReferenceIdeal_pre_finite_KernelIdeal (hPre_finite_KernelIdeal := Cert.Finite.facts) := by
  intro m g m' g' hpre h
  have hr := fun c => Cert.Finite.all_real _ _ _ _ _ (hpre c)
  have hx : ∀ i, Real' (m' (((0 : Dev Cert.ReferenceIdeal.nD).tc : Thread Cert.ReferenceIdeal.nD Cert.ReferenceIdeal.τ).loc Cert.ReferenceIdeal.main_arg0) i) := by
    rw [← (h 0).1]; exact (hr 0).1
  have hk : ∀ i, Real' (m' (((0 : Dev Cert.ReferenceIdeal.nD).tc : Thread Cert.ReferenceIdeal.nD Cert.ReferenceIdeal.τ).loc Cert.ReferenceIdeal.main_arg2) i) := by
    rw [← (h 0).2.2.1]; exact (hr 0).2.2
  have hwq : ∀ i, Real' (m' (((0 : Dev Cert.ReferenceIdeal.nD).tc : Thread Cert.ReferenceIdeal.nD Cert.ReferenceIdeal.τ).loc Cert.ReferenceIdeal.main_arg1) i) := by
    refine Cert.Agree.block_cols_all _ fun d => ?_
    rw [← (h d).2.1]; exact (hr d).2.1
  refine ⟨Cert.ReferenceIdeal.Value.res_main_v42 (F := Ideal) m' 0, ?_, ?_⟩
  · refine (θ_run _ _ _).mono (fun _ hrun c => ⟨(hrun.1 c).1.2.2.2.2.2.trans ?_, (hrun.1 c).1.1, (hrun.1 c).1.2.1, (hrun.1 c).1.2.2.1, (hrun.1 c).1.2.2.2.1, (hrun.1 c).1.2.2.2.2.1⟩)
      (Cert.KernelIdeal.Ring.run m g)
    rw [Cert.ReferenceIdeal.Attn.res_eq]
    exact Cert.Agree.out_eq _ _ _ _ _ m (fun d => (h d).1) (fun d => (h d).2.1) (fun d => (h d).2.2.1) (fun d => (h d).2.2.2.1)
      (fun d => (h d).2.2.2.2) hx hwq hk c
  · exact (θ_run _ _ _).mono (fun _ hrun => hrun 0) (Cert.ReferenceIdeal.Value.run (F := Ideal) m' g')

theorem claim : Cert.Claim :=
  ⟨Cert.Kernel.Gen.facts, Cert.KernelIdeal.Gen.facts, Cert.ReferenceIdeal.Gen.facts, Cert.Finite.facts, preReference,
    quiet, quietIdeal, fun m g _ => quietIdeal m g trivial, quietReference, fun m g _ => quietReference m g trivial,
    IdealRules.named_const.statement Cert.KernelIdeal.κ "mask" .f32 0xCE6E6B28#32 ⊥ rfl, agree⟩

end Cert.Proof

end
